-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_routed_in_range_KernelIdeal [hPre_finite_scores_routed_in_range_KernelIdeal : Cert.Pre_finite_scores_routed_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_routed_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_routed_in_range_ReferenceIdeal [hPre_finite_scores_routed_in_range_ReferenceIdeal : Cert.Pre_finite_scores_routed_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_routed_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_routed_in_range_KernelIdeal [hKernelIdeal : Cert.KernelIdeal.Facts] [hPre_finite_scores_routed_in_range_KernelIdeal : Cert.Pre_finite_scores_routed_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_routed_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_routed_in_range_ReferenceIdeal [hReferenceIdeal : Cert.ReferenceIdeal.Facts] [hPre_finite_scores_routed_in_range_ReferenceIdeal : Cert.Pre_finite_scores_routed_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_routed_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_routed_in_range_KernelIdeal [hKernelIdeal : Cert.KernelIdeal.Facts] [hReferenceIdeal : Cert.ReferenceIdeal.Facts] [hPre_finite_scores_routed_in_range_KernelIdeal : Cert.Pre_finite_scores_routed_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_routed_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_routed_in_range_KernelIdeal : Cert.Pre_finite_scores_routed_in_range_KernelIdeal.Facts) (hPre_finite_scores_routed_in_range_ReferenceIdeal : Cert.Pre_finite_scores_routed_in_range_ReferenceIdeal.Facts),
    quiescent_Kernel (hKernel := hKernel)
    ∧ quiescent_KernelIdeal (hKernelIdeal := hKernelIdeal)
    ∧ quiescent_KernelIdeal_pre_finite_scores_routed_in_range_KernelIdeal (hKernelIdeal := hKernelIdeal) (hPre_finite_scores_routed_in_range_KernelIdeal := hPre_finite_scores_routed_in_range_KernelIdeal)
    ∧ quiescent_ReferenceIdeal (hReferenceIdeal := hReferenceIdeal)
    ∧ quiescent_ReferenceIdeal_pre_finite_scores_routed_in_range_ReferenceIdeal (hReferenceIdeal := hReferenceIdeal) (hPre_finite_scores_routed_in_range_ReferenceIdeal := hPre_finite_scores_routed_in_range_ReferenceIdeal)
    ∧ preserves_Kernel_KernelIdeal
    ∧ algebraic_KernelIdeal_ReferenceIdeal_pre_finite_scores_routed_in_range_KernelIdeal (hKernelIdeal := hKernelIdeal) (hReferenceIdeal := hReferenceIdeal) (hPre_finite_scores_routed_in_range_KernelIdeal := hPre_finite_scores_routed_in_range_KernelIdeal)
-- ==== Pre_finite_scores_routed_in_range_KernelIdeal.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x256 .f32) (main_arg1 : FVec F S256x64 .f32) (main_arg2 : IVec S512x1 32) (main_arg3 : FVec F S2x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 32 := constantI S_ 32 64#32
  let main_v11 : IVec S512x1 32 := broadcastInDim S512x1 ![] bcast_S_S512x1 main_c_3
  let main_v12 : IVec S512x1 1 := cmpi .slt main_arg2 main_v11
  let main_v13 : IVec S512x1 1 := andi main_v10 main_v12
  let main_c_4 : IVec S_ 1 := constantI S_ 1 1#1
  let main_v14 : IVec S_ 1 := (fun x v => Host.reduce IntOp.andi x v reducesTo_S512x1_S_d0_1 h_S_) main_v13 main_c_4
  let main_v15 : IVec S_ 1 := andi main_v8 main_v14
  main_v15
-- ==== Pre_finite_scores_routed_in_range_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x256 .f32) (main_arg1 : FVec F S256x64 .f32) (main_arg2 : IVec S512x1 32) (main_arg3 : FVec F S64x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 32 := constantI S_ 32 64#32
  let main_v11 : IVec S512x1 32 := broadcastInDim S512x1 ![] bcast_S_S512x1 main_c_3
  let main_v12 : IVec S512x1 1 := cmpi .slt main_arg2 main_v11
  let main_v13 : IVec S512x1 1 := andi main_v10 main_v12
  let main_c_4 : IVec S_ 1 := constantI S_ 1 1#1
  let main_v14 : IVec S_ 1 := (fun x v => Host.reduce IntOp.andi x v reducesTo_S512x1_S_d0_1 h_S_) main_v13 main_c_4
  let main_v15 : IVec S_ 1 := andi main_v8 main_v14
  main_v15
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S16x512 : Shape := ⟨2, ![16, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S512x64 : Shape := ⟨2, ![512, 64]⟩
abbrev S512 : Shape := ⟨1, ![512]⟩
abbrev S128x512 : Shape := ⟨2, ![128, 512]⟩
abbrev S1 : Shape := ⟨1, ![1]⟩
abbrev S1x16x512 : Shape := ⟨3, ![1, 16, 512]⟩
abbrev S16x256 : Shape := ⟨2, ![16, 256]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S16x512, .f32⟩
  | .local _ .vmem, ⟨0, _⟩ => ⟨S512x256, .f32⟩
  | .local _ .vmem, ⟨1, _⟩ => ⟨S256x64, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S16x512, .f32⟩
  | .local _ .vmem, ⟨6, _⟩ => ⟨S512x512, .bf16⟩
  | .local _ .vmem, ⟨7, _⟩ => ⟨S32x16x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_153 : BitVec 32 := 0#32
  let c0_i32_154 : BitVec 32 := 0#32
  ![v2.toNat, 0, 0]
def k0_dev32 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_148 : BitVec 32 := 1#32
  let v185 : BitVec 32 := Scalar.addi v2 c1_i32_148
  let c32_i32_149 : BitVec 32 := 32#32
  let v186 : BitVec 32 := Scalar.remsi v185 c32_i32_149
  let c1_i32_151 : BitVec 32 := 1#32
  let v187 : BitVec 32 := Scalar.muli v186 c1_i32_151
  let v188 : BitVec 32 := Scalar.addi c0_i32_152 v187
  v188.toNat
def k0_dev33 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_157 : BitVec 32 := 2#32
  let v196 : BitVec 32 := Scalar.addi v2 c2_i32_157
  let c32_i32_158 : BitVec 32 := 32#32
  let v197 : BitVec 32 := Scalar.remsi v196 c32_i32_158
  let c1_i32_160 : BitVec 32 := 1#32
  let v198 : BitVec 32 := Scalar.muli v197 c1_i32_160
  let v199 : BitVec 32 := Scalar.addi c0_i32_161 v198
  v199.toNat
def k0_dev34 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_166 : BitVec 32 := 3#32
  let v207 : BitVec 32 := Scalar.addi v2 c3_i32_166
  let c32_i32_167 : BitVec 32 := 32#32
  let v208 : BitVec 32 := Scalar.remsi v207 c32_i32_167
  let c1_i32_169 : BitVec 32 := 1#32
  let v209 : BitVec 32 := Scalar.muli v208 c1_i32_169
  let v210 : BitVec 32 := Scalar.addi c0_i32_170 v209
  v210.toNat
def k0_dev35 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_174 : BitVec 32 := 4#32
  let v218 : BitVec 32 := Scalar.addi v2 c4_i32_174
  let c32_i32_175 : BitVec 32 := 32#32
  let v219 : BitVec 32 := Scalar.remsi v218 c32_i32_175
  let c1_i32_177 : BitVec 32 := 1#32
  let v220 : BitVec 32 := Scalar.muli v219 c1_i32_177
  let v221 : BitVec 32 := Scalar.addi c0_i32_178 v220
  v221.toNat
def k0_dev36 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_182 : BitVec 32 := 5#32
  let v229 : BitVec 32 := Scalar.addi v2 c5_i32_182
  let c32_i32_183 : BitVec 32 := 32#32
  let v230 : BitVec 32 := Scalar.remsi v229 c32_i32_183
  let c1_i32_185 : BitVec 32 := 1#32
  let v231 : BitVec 32 := Scalar.muli v230 c1_i32_185
  let v232 : BitVec 32 := Scalar.addi c0_i32_186 v231
  v232.toNat
def k0_dev37 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_190 : BitVec 32 := 6#32
  let v240 : BitVec 32 := Scalar.addi v2 c6_i32_190
  let c32_i32_191 : BitVec 32 := 32#32
  let v241 : BitVec 32 := Scalar.remsi v240 c32_i32_191
  let c1_i32_193 : BitVec 32 := 1#32
  let v242 : BitVec 32 := Scalar.muli v241 c1_i32_193
  let v243 : BitVec 32 := Scalar.addi c0_i32_194 v242
  v243.toNat
def k0_dev38 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_198 : BitVec 32 := 7#32
  let v251 : BitVec 32 := Scalar.addi v2 c7_i32_198
  let c32_i32_199 : BitVec 32 := 32#32
  let v252 : BitVec 32 := Scalar.remsi v251 c32_i32_199
  let c1_i32_201 : BitVec 32 := 1#32
  let v253 : BitVec 32 := Scalar.muli v252 c1_i32_201
  let v254 : BitVec 32 := Scalar.addi c0_i32_202 v253
  v254.toNat
def k0_dev39 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_208 : BitVec 32 := 8#32
  let v268 : BitVec 32 := Scalar.addi v2 c8_i32_208
  let c32_i32_209 : BitVec 32 := 32#32
  let v269 : BitVec 32 := Scalar.remsi v268 c32_i32_209
  let c1_i32_211 : BitVec 32 := 1#32
  let v270 : BitVec 32 := Scalar.muli v269 c1_i32_211
  let v271 : BitVec 32 := Scalar.addi c0_i32_212 v270
  v271.toNat
def k0_dev40 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_216 : BitVec 32 := 9#32
  let v279 : BitVec 32 := Scalar.addi v2 c9_i32_216
  let c32_i32_217 : BitVec 32 := 32#32
  let v280 : BitVec 32 := Scalar.remsi v279 c32_i32_217
  let c1_i32_219 : BitVec 32 := 1#32
  let v281 : BitVec 32 := Scalar.muli v280 c1_i32_219
  let v282 : BitVec 32 := Scalar.addi c0_i32_220 v281
  v282.toNat
def k0_dev41 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_224 : BitVec 32 := 10#32
  let v290 : BitVec 32 := Scalar.addi v2 c10_i32_224
  let c32_i32_225 : BitVec 32 := 32#32
  let v291 : BitVec 32 := Scalar.remsi v290 c32_i32_225
  let c1_i32_227 : BitVec 32 := 1#32
  let v292 : BitVec 32 := Scalar.muli v291 c1_i32_227
  let v293 : BitVec 32 := Scalar.addi c0_i32_228 v292
  v293.toNat
def k0_dev42 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_232 : BitVec 32 := 11#32
  let v301 : BitVec 32 := Scalar.addi v2 c11_i32_232
  let c32_i32_233 : BitVec 32 := 32#32
  let v302 : BitVec 32 := Scalar.remsi v301 c32_i32_233
  let c1_i32_235 : BitVec 32 := 1#32
  let v303 : BitVec 32 := Scalar.muli v302 c1_i32_235
  let v304 : BitVec 32 := Scalar.addi c0_i32_236 v303
  v304.toNat
def k0_dev43 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_240 : BitVec 32 := 12#32
  let v312 : BitVec 32 := Scalar.addi v2 c12_i32_240
  let c32_i32_241 : BitVec 32 := 32#32
  let v313 : BitVec 32 := Scalar.remsi v312 c32_i32_241
  let c1_i32_243 : BitVec 32 := 1#32
  let v314 : BitVec 32 := Scalar.muli v313 c1_i32_243
  let v315 : BitVec 32 := Scalar.addi c0_i32_244 v314
  v315.toNat
def k0_dev44 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_248 : BitVec 32 := 13#32
  let v323 : BitVec 32 := Scalar.addi v2 c13_i32_248
  let c32_i32_249 : BitVec 32 := 32#32
  let v324 : BitVec 32 := Scalar.remsi v323 c32_i32_249
  let c1_i32_251 : BitVec 32 := 1#32
  let v325 : BitVec 32 := Scalar.muli v324 c1_i32_251
  let v326 : BitVec 32 := Scalar.addi c0_i32_252 v325
  v326.toNat
def k0_dev45 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_256 : BitVec 32 := 14#32
  let v334 : BitVec 32 := Scalar.addi v2 c14_i32_256
  let c32_i32_257 : BitVec 32 := 32#32
  let v335 : BitVec 32 := Scalar.remsi v334 c32_i32_257
  let c1_i32_259 : BitVec 32 := 1#32
  let v336 : BitVec 32 := Scalar.muli v335 c1_i32_259
  let v337 : BitVec 32 := Scalar.addi c0_i32_260 v336
  v337.toNat
def k0_dev46 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_264 : BitVec 32 := 15#32
  let v345 : BitVec 32 := Scalar.addi v2 c15_i32_264
  let c32_i32_265 : BitVec 32 := 32#32
  let v346 : BitVec 32 := Scalar.remsi v345 c32_i32_265
  let c1_i32_267 : BitVec 32 := 1#32
  let v347 : BitVec 32 := Scalar.muli v346 c1_i32_267
  let v348 : BitVec 32 := Scalar.addi c0_i32_268 v347
  v348.toNat
def k0_dev47 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_274 : BitVec 32 := 16#32
  let v362 : BitVec 32 := Scalar.addi v2 c16_i32_274
  let c32_i32_275 : BitVec 32 := 32#32
  let v363 : BitVec 32 := Scalar.remsi v362 c32_i32_275
  let c1_i32_277 : BitVec 32 := 1#32
  let v364 : BitVec 32 := Scalar.muli v363 c1_i32_277
  let v365 : BitVec 32 := Scalar.addi c0_i32_278 v364
  v365.toNat
def k0_dev48 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_282 : BitVec 32 := 17#32
  let v373 : BitVec 32 := Scalar.addi v2 c17_i32_282
  let c32_i32_283 : BitVec 32 := 32#32
  let v374 : BitVec 32 := Scalar.remsi v373 c32_i32_283
  let c1_i32_285 : BitVec 32 := 1#32
  let v375 : BitVec 32 := Scalar.muli v374 c1_i32_285
  let v376 : BitVec 32 := Scalar.addi c0_i32_286 v375
  v376.toNat
def k0_dev49 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_290 : BitVec 32 := 18#32
  let v384 : BitVec 32 := Scalar.addi v2 c18_i32_290
  let c32_i32_291 : BitVec 32 := 32#32
  let v385 : BitVec 32 := Scalar.remsi v384 c32_i32_291
  let c1_i32_293 : BitVec 32 := 1#32
  let v386 : BitVec 32 := Scalar.muli v385 c1_i32_293
  let v387 : BitVec 32 := Scalar.addi c0_i32_294 v386
  v387.toNat
def k0_dev50 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_298 : BitVec 32 := 19#32
  let v395 : BitVec 32 := Scalar.addi v2 c19_i32_298
  let c32_i32_299 : BitVec 32 := 32#32
  let v396 : BitVec 32 := Scalar.remsi v395 c32_i32_299
  let c1_i32_301 : BitVec 32 := 1#32
  let v397 : BitVec 32 := Scalar.muli v396 c1_i32_301
  let v398 : BitVec 32 := Scalar.addi c0_i32_302 v397
  v398.toNat
def k0_dev51 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_306 : BitVec 32 := 20#32
  let v406 : BitVec 32 := Scalar.addi v2 c20_i32_306
  let c32_i32_307 : BitVec 32 := 32#32
  let v407 : BitVec 32 := Scalar.remsi v406 c32_i32_307
  let c1_i32_309 : BitVec 32 := 1#32
  let v408 : BitVec 32 := Scalar.muli v407 c1_i32_309
  let v409 : BitVec 32 := Scalar.addi c0_i32_310 v408
  v409.toNat
def k0_dev52 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_314 : BitVec 32 := 21#32
  let v417 : BitVec 32 := Scalar.addi v2 c21_i32_314
  let c32_i32_315 : BitVec 32 := 32#32
  let v418 : BitVec 32 := Scalar.remsi v417 c32_i32_315
  let c1_i32_317 : BitVec 32 := 1#32
  let v419 : BitVec 32 := Scalar.muli v418 c1_i32_317
  let v420 : BitVec 32 := Scalar.addi c0_i32_318 v419
  v420.toNat
def k0_dev53 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_322 : BitVec 32 := 22#32
  let v428 : BitVec 32 := Scalar.addi v2 c22_i32_322
  let c32_i32_323 : BitVec 32 := 32#32
  let v429 : BitVec 32 := Scalar.remsi v428 c32_i32_323
  let c1_i32_325 : BitVec 32 := 1#32
  let v430 : BitVec 32 := Scalar.muli v429 c1_i32_325
  let v431 : BitVec 32 := Scalar.addi c0_i32_326 v430
  v431.toNat
def k0_dev54 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_330 : BitVec 32 := 23#32
  let v439 : BitVec 32 := Scalar.addi v2 c23_i32_330
  let c32_i32_331 : BitVec 32 := 32#32
  let v440 : BitVec 32 := Scalar.remsi v439 c32_i32_331
  let c1_i32_333 : BitVec 32 := 1#32
  let v441 : BitVec 32 := Scalar.muli v440 c1_i32_333
  let v442 : BitVec 32 := Scalar.addi c0_i32_334 v441
  v442.toNat
def k0_dev55 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_340 : BitVec 32 := 24#32
  let v456 : BitVec 32 := Scalar.addi v2 c24_i32_340
  let c32_i32_341 : BitVec 32 := 32#32
  let v457 : BitVec 32 := Scalar.remsi v456 c32_i32_341
  let c1_i32_343 : BitVec 32 := 1#32
  let v458 : BitVec 32 := Scalar.muli v457 c1_i32_343
  let v459 : BitVec 32 := Scalar.addi c0_i32_344 v458
  v459.toNat
def k0_dev56 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_348 : BitVec 32 := 25#32
  let v467 : BitVec 32 := Scalar.addi v2 c25_i32_348
  let c32_i32_349 : BitVec 32 := 32#32
  let v468 : BitVec 32 := Scalar.remsi v467 c32_i32_349
  let c1_i32_351 : BitVec 32 := 1#32
  let v469 : BitVec 32 := Scalar.muli v468 c1_i32_351
  let v470 : BitVec 32 := Scalar.addi c0_i32_352 v469
  v470.toNat
def k0_dev57 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_356 : BitVec 32 := 26#32
  let v478 : BitVec 32 := Scalar.addi v2 c26_i32_356
  let c32_i32_357 : BitVec 32 := 32#32
  let v479 : BitVec 32 := Scalar.remsi v478 c32_i32_357
  let c1_i32_359 : BitVec 32 := 1#32
  let v480 : BitVec 32 := Scalar.muli v479 c1_i32_359
  let v481 : BitVec 32 := Scalar.addi c0_i32_360 v480
  v481.toNat
def k0_dev58 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_364 : BitVec 32 := 27#32
  let v489 : BitVec 32 := Scalar.addi v2 c27_i32_364
  let c32_i32_365 : BitVec 32 := 32#32
  let v490 : BitVec 32 := Scalar.remsi v489 c32_i32_365
  let c1_i32_367 : BitVec 32 := 1#32
  let v491 : BitVec 32 := Scalar.muli v490 c1_i32_367
  let v492 : BitVec 32 := Scalar.addi c0_i32_368 v491
  v492.toNat
def k0_dev59 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_372 : BitVec 32 := 28#32
  let v500 : BitVec 32 := Scalar.addi v2 c28_i32_372
  let c32_i32_373 : BitVec 32 := 32#32
  let v501 : BitVec 32 := Scalar.remsi v500 c32_i32_373
  let c1_i32_375 : BitVec 32 := 1#32
  let v502 : BitVec 32 := Scalar.muli v501 c1_i32_375
  let v503 : BitVec 32 := Scalar.addi c0_i32_376 v502
  v503.toNat
def k0_dev60 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_380 : BitVec 32 := 29#32
  let v511 : BitVec 32 := Scalar.addi v2 c29_i32_380
  let c32_i32_381 : BitVec 32 := 32#32
  let v512 : BitVec 32 := Scalar.remsi v511 c32_i32_381
  let c1_i32_383 : BitVec 32 := 1#32
  let v513 : BitVec 32 := Scalar.muli v512 c1_i32_383
  let v514 : BitVec 32 := Scalar.addi c0_i32_384 v513
  v514.toNat
def k0_dev61 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_388 : BitVec 32 := 30#32
  let v522 : BitVec 32 := Scalar.addi v2 c30_i32_388
  let c32_i32_389 : BitVec 32 := 32#32
  let v523 : BitVec 32 := Scalar.remsi v522 c32_i32_389
  let c1_i32_391 : BitVec 32 := 1#32
  let v524 : BitVec 32 := Scalar.muli v523 c1_i32_391
  let v525 : BitVec 32 := Scalar.addi c0_i32_392 v524
  v525.toNat
def k0_dev62 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_396 : BitVec 32 := 31#32
  let v533 : BitVec 32 := Scalar.addi v2 c31_i32_396
  let c32_i32_397 : BitVec 32 := 32#32
  let v534 : BitVec 32 := Scalar.remsi v533 c32_i32_397
  let c1_i32_399 : BitVec 32 := 1#32
  let v535 : BitVec 32 := Scalar.muli v534 c1_i32_399
  let v536 : BitVec 32 := Scalar.addi c0_i32_400 v535
  v536.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_404 : BitVec 32 := 16#32
  let v544 : BitVec 32 := Scalar.muli v2 c16_i32_404
  let v545 : Index := Scalar.indexCast v544
  let c0_405 : Index := 0#32
  ![v545.toNat, 0]
def k0_off4 (d0 : Dev nD) (c1_i32_411 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v554 : BitVec 32 := Scalar.subi v2 c1_i32_411
  let c32_i32_412 : BitVec 32 := 32#32
  let v555 : BitVec 32 := Scalar.addi v554 c32_i32_412
  let c32_i32_413 : BitVec 32 := 32#32
  let v556 : BitVec 32 := Scalar.remsi v555 c32_i32_413
  ![v556.toNat]
def k0_off5 (d0 : Dev nD) (c1_i32_411 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v554 : BitVec 32 := Scalar.subi v2 c1_i32_411
  let c32_i32_412 : BitVec 32 := 32#32
  let v555 : BitVec 32 := Scalar.addi v554 c32_i32_412
  let c32_i32_413 : BitVec 32 := 32#32
  let v556 : BitVec 32 := Scalar.remsi v555 c32_i32_413
  let c0_i32_417 : BitVec 32 := 0#32
  let c0_i32_418 : BitVec 32 := 0#32
  ![v556.toNat, 0, 0]
def k0_off6 (d0 : Dev nD) (c1_i32_411 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v554 : BitVec 32 := Scalar.subi v2 c1_i32_411
  let c32_i32_412 : BitVec 32 := 32#32
  let v555 : BitVec 32 := Scalar.addi v554 c32_i32_412
  let c32_i32_413 : BitVec 32 := 32#32
  let v556 : BitVec 32 := Scalar.remsi v555 c32_i32_413
  let v564 : Index := Scalar.indexCast v556
  let c0_421 : Index := 0#32
  let c0_422 : Index := 0#32
  ![v564.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S256x512, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x64, .f32⟩
  | .hbm, ⟨16, _⟩ => ⟨S512x64, .f32⟩
  | .hbm, ⟨17, _⟩ => ⟨S512x512, .f32⟩
  | .hbm, ⟨18, _⟩ => ⟨S512, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S512x1x1, .i32⟩
  | .hbm, ⟨27, _⟩ => ⟨S1, .i32⟩
  | .hbm, ⟨28, _⟩ => ⟨S_, .i32⟩
  | .hbm, ⟨29, _⟩ => ⟨S512x1x1, .i32⟩
  | .hbm, ⟨30, _⟩ => ⟨S512x1x1, .i1⟩
  | .hbm, ⟨31, _⟩ => ⟨S1x1x1, .i32⟩
  | .hbm, ⟨32, _⟩ => ⟨S512x1x1, .i32⟩
  | .hbm, ⟨33, _⟩ => ⟨S512x1x1, .i1⟩
  | .hbm, ⟨34, _⟩ => ⟨S512x1x1, .i1⟩
  | .hbm, ⟨35, _⟩ => ⟨S_, .i1⟩
  | .hbm, ⟨36, _⟩ => ⟨S512x1, .i1⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Geometry.lean ====
/-
The kernel's semaphores, cells and pieces of its two scratch buffers, written over natural numbers: the device a
transfer of step `s` goes to, the semaphore of a step, the rows of the partial product and the slots of the landing
buffer that a step's views cover.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Routed

open Cert.KernelIdeal Cert.KernelIdeal.Gen

open Idealize.ShloMosaic
open Idealize.ShloMosaic.TcCoe

/-! ## Devices -/

/-- The device `s` places after `c` around the 32. -/
def dst (c : Dev nD) (s : ℕ) : Dev nD := ⟨(c.val + s) % 32, Nat.mod_lt _ (by decide)⟩

theorem dst_val (c : Dev nD) (s : ℕ) : (dst c s).val = (c.val + s) % 32 := rfl

theorem dev_lt (c : Dev nD) : c.val < 32 := c.isLt

theorem dst_dst (c : Dev nD) (s t : ℕ) : dst (dst c s) t = dst c (s + t) := by
  apply Fin.ext
  simp only [dst_val]
  omega

theorem dst_of_mul (c : Dev nD) {s : ℕ} (h : s % 32 = 0) : dst c s = c := by
  apply Fin.ext
  have := dev_lt c
  simp only [dst_val]
  omega

/-- Going `s` places on, a permutation of the devices. -/
def around (s : ℕ) : Dev nD ≃ Dev nD where
  toFun c := dst c s
  invFun c := dst c (31 * s)
  left_inv c := (dst_dst c s (31 * s)).trans (dst_of_mul c (by omega))
  right_inv c := (dst_dst c (31 * s) s).trans (dst_of_mul c (by omega))

/-! ## Semaphores and cells -/

/-- The barrier semaphore. -/
abbrev barS : Sem sig := (SemArray.scalar (sig.barrier 0 rfl) : Sems sig S_).sem

/-- The transfer semaphore of number `n`. -/
def dsem (n : ℕ) : DmaSem sig := ⟨n % 70, Nat.mod_lt _ (by decide)⟩

theorem dsem_inj {a b : ℕ} (ha : a < 70) (hb : b < 70) (h : dsem a = dsem b) : a = b := by
  have := congrArg Fin.val h
  simp only [dsem] at this
  omega

/-- A device's barrier cell. -/
abbrev barCell (c : Dev nD) : GSem nD τ sig := ((c : Thread nD τ), .reg barS)
/-- The cell that counts step `s`'s departures from device `c`. -/
abbrev sndCell (c : Dev nD) (s : ℕ) : GSem nD τ sig := ((c : Thread nD τ), .dma (dsem (5 + s)))
/-- The cell that counts device `j`'s arrivals at device `c`. -/
abbrev rcvCell (c : Dev nD) (j : ℕ) : GSem nD τ sig := ((c : Thread nD τ), .dma (dsem (38 + j)))

theorem sem_of_consecutive (base : ℕ) (hb : base + S32.numel ≤ 70) (off : Fin 1 → ℕ) (inb) (sq) :
    ((((SemArray.consecutive base S32 hb : DmaSems sig S32).slice (Rect.unit (s := S32) off S1.size inb)).squeeze S_ sq).sem)
      = dsem (base + off 0) := by
  have h0 : off 0 + 1 ≤ 32 := inb 0
  have hb' : base + 32 ≤ 70 := hb
  apply Fin.ext
  show base + (S32.rowMajor _).val = (base + off 0) % 70
  rw [Shape.rowMajor_val_one]
  show base + (off 0 + 1 * _) = _
  have hj := ((Shape.reshapeEquiv sq.numel_eq (fun i : Fin 0 => i.elim0)) 0).isLt
  have hj' : ((Shape.reshapeEquiv sq.numel_eq (fun i : Fin 0 => i.elim0)) 0).val < 1 := hj
  rw [show ((Shape.reshapeEquiv sq.numel_eq (fun i : Fin 0 => i.elim0)) 0).val = 0 by omega]
  omega

/-- The semaphore of departures at offset `off` of the array of departures. -/
theorem snd_sem (off : Fin 1 → ℕ) (inb) (sq) :
    ((cc0_scratch2.slice (Rect.unit (s := S32) off S1.size inb)).squeeze S_ sq).sem = dsem (6 + off 0) :=
  sem_of_consecutive 6 _ off inb sq

/-- The semaphore of arrivals at offset `off` of the array of arrivals. -/
theorem rcv_sem (off : Fin 1 → ℕ) (inb) (sq) :
    ((cc0_scratch3.slice (Rect.unit (s := S32) off S1.size inb)).squeeze S_ sq).sem = dsem (38 + off 0) :=
  sem_of_consecutive 38 _ off inb sq

/-! ## The two scratch buffers -/

/-- The whole partial product of a device. -/
abbrev pM : Memref sig .tc .vmem S512x512 .bf16 := Memref.whole cc0_scratch0
/-- The landing buffer of a device, one slot per sending device. -/
abbrev cM : Memref sig .tc .vmem S32x16x512 .bf16 := Memref.whole cc0_scratch1

/-- Sixteen rows of the partial product. -/
abbrev rowsM (off : Fin 2 → ℕ) (inb : ∀ a, off a + S16x512.size a ≤ S512x512.size a) : Memref sig .tc .vmem S16x512 .bf16 :=
  pM.slice (Rect.unit (s := S512x512) off S16x512.size inb) (fun _ => rfl)
/-- One slot of the landing buffer. -/
abbrev slotM (off : Fin 3 → ℕ) (inb : ∀ a, off a + S1x16x512.size a ≤ S32x16x512.size a) : Memref sig .tc .vmem S16x512 .bf16 :=
  (cM.slice (Rect.unit (s := S32x16x512) off S1x16x512.size inb) (fun _ => rfl)).squeeze S16x512 squeezes_S1x16x512_S16x512

/-- Rows `a` up to `b` of the partial product. -/
def rowS (a b : ℕ) : Finset S512x512.Idx := Finset.univ.filter fun i => a ≤ (i 0).val ∧ (i 0).val < b
/-- Slot `j` of the landing buffer. -/
def slotS (j : ℕ) : Finset S32x16x512.Idx := Finset.univ.filter fun i => (i 0).val = j

theorem mem_rowS {a b : ℕ} {i : S512x512.Idx} : i ∈ rowS a b ↔ a ≤ (i 0).val ∧ (i 0).val < b := by
  simp [rowS]
theorem mem_slotS {j : ℕ} {i : S32x16x512.Idx} : i ∈ slotS j ↔ (i 0).val = j := by
  simp [slotS]

theorem rect_rows (a n : ℕ) (size : Fin 2 → ℕ) (hs : size = ![n, 512]) (inb) :
    (Rect.unit (s := S512x512) ![a, 0] size inb).set = rowS a (a + n) := by
  subst hs
  ext i
  have h1 : (i 1).val < 512 := (i 1).isLt
  rw [Rect.mem_set_unit, mem_rowS, Fin.forall_fin_two]
  constructor
  · rintro ⟨h, -⟩; exact h
  · intro h; exact ⟨h, Nat.zero_le _, by simpa using h1⟩

theorem rect_slot (j : ℕ) (inb) :
    (Rect.unit (s := S32x16x512) ![j, 0, 0] S1x16x512.size inb).set = slotS j := by
  ext i
  have h1 : (i 1).val < 16 := (i 1).isLt
  have h2 : (i 2).val < 512 := (i 2).isLt
  rw [Rect.mem_set_unit, mem_slotS]
  constructor
  · intro h
    have h0 := h 0
    change j ≤ (i 0).val ∧ (i 0).val < j + 1 at h0
    omega
  · intro h a
    match a with
    | ⟨0, _⟩ => exact ⟨le_of_eq h.symm, by show (i 0).val < j + 1; omega⟩
    | ⟨1, _⟩ => exact ⟨Nat.zero_le _, by show (i 1).val < 0 + 16; omega⟩
    | ⟨2, _⟩ => exact ⟨Nat.zero_le _, by show (i 2).val < 0 + 512; omega⟩

theorem rowsM_set (a : ℕ) (off) (inb) (h : off = ![a, 0]) : (rowsM off inb).view.set = rowS a (a + 16) := by
  subst h
  rw [← rect_rows a 16 S16x512.size rfl inb]
  exact View.set_slice_whole _ _

theorem slotM_set (j : ℕ) (off) (inb) (h : off = ![j, 0, 0]) : (slotM off inb).view.set = slotS j := by
  subst h
  rw [← rect_slot j inb]
  exact (View.set_reshape _ _).trans (View.set_slice_whole _ _)

theorem rowsM_emb0 (off) (inb) (x : S16x512.Idx) : (((rowsM off inb).view.emb x) 0).val = off 0 + (x 0).val := by
  show off 0 + 1 * (x 0).val = _
  omega
theorem rowsM_emb1 (off) (inb) (x : S16x512.Idx) : (((rowsM off inb).view.emb x) 1).val = off 1 + (x 1).val := by
  show off 1 + 1 * (x 1).val = _
  omega

theorem slotM_emb (off) (inb) (x : S16x512.Idx) :
    (slotM off inb).view.emb x = (Rect.unit (s := S32x16x512) off S1x16x512.size inb).emb (Fin.cons ⟨0, Nat.one_pos⟩ x) := by
  show (Rect.unit (s := S32x16x512) off S1x16x512.size inb).emb (Shape.reshapeEquiv _ x) = _
  congr 1
  exact Shape.reshapeEquiv_cons_one (n := 2) (d := ![16, 512]) _ x

theorem slotM_emb0 (off) (inb) (x : S16x512.Idx) : (((slotM off inb).view.emb x) 0).val = off 0 := by
  rw [slotM_emb]
  show off 0 + 1 * 0 = _
  omega
theorem slotM_emb1 (off) (inb) (x : S16x512.Idx) : (((slotM off inb).view.emb x) 1).val = off 1 + (x 0).val := by
  rw [slotM_emb]
  show off 1 + 1 * (x 0).val = _
  omega
theorem slotM_emb2 (off) (inb) (x : S16x512.Idx) : (((slotM off inb).view.emb x) 2).val = off 2 + (x 1).val := by
  rw [slotM_emb]
  show off 2 + 1 * (x 1).val = _
  omega

end Cert.Routed
-- ==== Proof.Protocol.lean ====
/-
The exchange as a schedule of rounds. A device's barrier cell has one round of 31 duties; the duty `t` is paid by the
device `t` places on, with that device's landing slot for this device's rows. Each cell of departures and each cell of
arrivals has one round of one duty, the credit of one piece of sixteen rows: a departure gives back the rows sent, an
arrival gives the slot holding the rows received.
-/
module

public import proofs.«01_k».proof.Proof.Geometry

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, duties named by natural numbers -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Contents -/

/-- What window `w` stages on device `c`: the block of its array. -/
def xin (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c : Thread nD τ)))

/-- The tokens. -/
def x0 (c : Dev nD) : Vec F S512x256 .f32 := (win0_0.blk (0 : Fin 1)).view.read (Elt F) (m ((c : Thread nD τ).loc main_arg0))
/-- The router's weights. -/
def x1 (c : Dev nD) : Vec F S256x64 .f32 := (win0_1.blk (0 : Fin 1)).view.read (Elt F) (m ((c : Thread nD τ).loc main_arg1))
/-- The expert of each token. -/
def x2 (c : Dev nD) : Vec F S512x1 .i32 := (win0_2.blk (0 : Fin 1)).view.read (Elt F) (m ((c : Thread nD τ).loc main_arg2))
/-- The device's two experts. -/
def x3 (c : Dev nD) : Vec F S2x256x512 .f32 := (win0_3.blk (0 : Fin 1)).view.read (Elt F) (m ((c : Thread nD τ).loc main_arg3))
/-- The shared expert. -/
def x4 (c : Dev nD) : Vec F S256x512 .f32 := (win0_4.blk (0 : Fin 1)).view.read (Elt F) (m ((c : Thread nD τ).loc main_arg4))

/-- The device's number as the kernel computes it. -/
def word (c : Dev nD) : BitVec 32 := Scalar.remsi (Scalar.divsi (Dev.word c) 1#32) 32#32

/-- The numbers of the experts, along the second axis. -/
def expIota : IVec S512x64 32 := iota .tc S512x64 32 [1] iota_S512x64_d1_w32

/-- The scaled tokens, both experts side by side, rows turned so that the device's own come first. -/
def turned (c : Dev nD) : FVec F S512x512 .bf16 :=
  k0_pay5 (word c) (k0_pay1 (x0 m c)) (k0_pay2 (x0 m c) (x1 m c)) expIota (k0_pay3 (x2 m c)) (k0_pay4 (word c) (x0 m c) (x1 m c) (x2 m c))
/-- The two experts stacked. -/
def stacked (c : Dev nD) : FVec F S512x512 .bf16 := k0_pay6 (x3 m c)

/-- The four blocks of 128 rows of the partial product. -/
def chunk (c : Dev nD) (q : ℕ) : Vec F S128x512 .bf16 :=
  if q = 0 then
    k0_pay7 (word c) (k0_pay1 (x0 m c)) (k0_pay2 (x0 m c) (x1 m c)) expIota (k0_pay3 (x2 m c))
      (k0_pay4 (word c) (x0 m c) (x1 m c) (x2 m c)) (x3 m c)
  else if q = 1 then k0_pay8 (turned m c) (stacked m c)
  else if q = 2 then k0_pay9 (turned m c) (stacked m c)
  else k0_pay10 (turned m c) (stacked m c)

/-- The place of row `a`, column `b` in a block of 128 rows. -/
def crow (a b : ℕ) : S128x512.Idx := fun d => match d with
  | ⟨0, _⟩ => ⟨a % 128, Nat.mod_lt _ (by decide)⟩
  | ⟨1, _⟩ => ⟨b % 512, Nat.mod_lt _ (by decide)⟩

/-- The place of row `a`, column `b` in the partial product. -/
def prow (a b : ℕ) : S512x512.Idx := fun d => match d with
  | ⟨0, _⟩ => ⟨a % 512, Nat.mod_lt _ (by decide)⟩
  | ⟨1, _⟩ => ⟨b % 512, Nat.mod_lt _ (by decide)⟩

theorem eq_crow {i : S128x512.Idx} {a b : ℕ} (h0 : (i 0).val = a) (h1 : (i 1).val = b) : i = crow a b := by
  have i0 : (i 0).val < 128 := (i 0).isLt
  have i1 : (i 1).val < 512 := (i 1).isLt
  funext d
  match d with
  | ⟨0, _⟩ => apply Fin.ext; show (i 0).val = a % 128; omega
  | ⟨1, _⟩ => apply Fin.ext; show (i 1).val = b % 512; omega

theorem eq_prow {i : S512x512.Idx} {a b : ℕ} (h0 : (i 0).val = a) (h1 : (i 1).val = b) : i = prow a b := by
  have i0 : (i 0).val < 512 := (i 0).isLt
  have i1 : (i 1).val < 512 := (i 1).isLt
  funext d
  match d with
  | ⟨0, _⟩ => apply Fin.ext; show (i 0).val = a % 512; omega
  | ⟨1, _⟩ => apply Fin.ext; show (i 1).val = b % 512; omega

/-- The whole partial product of device `c`. -/
def PV (c : Dev nD) : Buf (Elt F) ((c : Thread nD τ).loc cc0_scratch0) :=
  fun (i : S512x512.Idx) => chunk m c ((i 0).val / 128) (crow (i 0).val (i 1).val)

/-- The landing buffer of device `c` once everything has arrived: slot `j` holds the piece device `j` sent. -/
def CV (c : Dev nD) : Buf (Elt F) ((c : Thread nD τ).loc cc0_scratch1) :=
  fun (i : S32x16x512.Idx) => PV m (i 0) (prow (16 * ((c.val + 32 - (i 0).val) % 32) + (i 1).val) (i 2).val)

/-- Rows `a` up to `b` of device `c`'s partial product. -/
def rowPts (c : Dev nD) (a b : ℕ) (f : Buf (Elt F) ((c : Thread nD τ).loc cc0_scratch0)) : sProp 𝕄 :=
  ((c : Thread nD τ).loc cc0_scratch0) ↦[rowS a b]{fullShare} f
/-- Slot `j` of device `c`'s landing buffer. -/
def slotPts (c : Dev nD) (j : ℕ) (f : Buf (Elt F) ((c : Thread nD τ).loc cc0_scratch1)) : sProp 𝕄 :=
  ((c : Thread nD τ).loc cc0_scratch1) ↦[slotS j]{fullShare} f

omit [FloatOps F] in
instance rowPts_storable (c : Dev nD) (a b) (f) : BI.Storable (upEmb : UEmb _ 𝕄) (rowPts (F := F) c a b f) := by unfold rowPts; infer_instance
omit [FloatOps F] in
instance slotPts_storable (c : Dev nD) (j) (f) : BI.Storable (upEmb : UEmb _ 𝕄) (slotPts (F := F) c j f) := by unfold slotPts; infer_instance

/-! ## The schedule -/

/-- The credit of one piece. -/
abbrev N : ℕ := (slotM ![0, 0, 0] (by decide)).view.dmaCredit
theorem N_pos : 0 < N := View.dmaCredit_pos _ (by decide)

/-- The duties of device `c`'s semaphores. -/
def dutySet (c : Dev nD) : SemLoc sig → Finset ℕ
  | .reg _ => Finset.Ico 1 32
  | .dma q => if 6 ≤ q.val ∧ q.val ≠ 37 ∧ q.val ≠ 38 + c.val then {0} else ∅

/-- What device `dst c d`'s signal hands `c`: the slot for `c`'s rows of its landing buffer. -/
def barPay (c : Dev nD) (d : ℕ) : sProp 𝕄 := iprop(∃ f, slotPts (F := F) (dst c d) c.val f)

def dmaPay (c : Dev nD) (q : ℕ) : sProp 𝕄 :=
  if q < 38 then rowPts c (16 * (q - 5)) (16 * (q - 5) + 16) (PV m c) else slotPts c (q - 38) (CV m c)

def payOf (c : Dev nD) (d : ℕ) : SemLoc sig → sProp 𝕄
  | .reg _ => barPay c d
  | .dma q => dmaPay m c q.val

def amtOf : SemLoc sig → ℕ
  | .reg _ => 1
  | .dma _ => N

def sched : Rounds.Schedule (GSem nD τ sig) ℕ 𝕄 where
  duties g r := if r = 0 ∧ g.1.2 = .tc then dutySet g.1.1 g.2 else ∅
  unitless _ := False
  amount g _ _ := amtOf g.2
  payload g _ d := payOf m g.1.1 d g.2
  amount_pos g _ _ _ := by
    cases h : g.2 with
    | reg _ => exact Nat.one_pos
    | dma _ => exact N_pos

omit [FloatOps F] in
instance barPay_storable (c : Dev nD) (d : ℕ) : BI.Storable (upEmb : UEmb _ 𝕄) (barPay (F := F) c d) := by
  unfold barPay; infer_instance
instance dmaPay_storable (c : Dev nD) (q : ℕ) : BI.Storable (upEmb : UEmb _ 𝕄) (dmaPay (F := F) m c q) := by
  unfold dmaPay; split <;> infer_instance
instance sched_payload_storable (g : GSem nD τ sig) (r : ℕ) (d : ℕ) :
    BI.Storable (upEmb : UEmb _ 𝕄) ((sched (F := F) m).payload g r d) := by
  show BI.Storable upEmb (payOf m g.1.1 d g.2)
  cases g.2 with
  | reg _ => exact barPay_storable _ _
  | dma q => exact dmaPay_storable m _ _

section Sched
variable (c : Dev nD)

theorem duties_zero (sm : SemLoc sig) : (sched (F := F) m).duties ((c : Thread nD τ), sm) 0 = dutySet c sm := by
  dsimp only [sched]; exact if_pos ⟨rfl, rfl⟩
theorem dutySet_dma (q : DmaSem sig) : dutySet c (.dma q) = if 6 ≤ q.val ∧ q.val ≠ 37 ∧ q.val ≠ 38 + c.val then {0} else ∅ := rfl
theorem duties_bar : (sched (F := F) m).duties (barCell c) 0 = Finset.Ico 1 32 := (duties_zero m c _).trans rfl
theorem duties_later (g : GSem nD τ sig) : ∀ r, 1 ≤ r → (sched (F := F) m).duties g r = ∅ :=
  fun r hr => by dsimp only [sched]; exact if_neg fun h => by omega

theorem duties_snd {s : ℕ} (h1 : 1 ≤ s) (h2 : s < 32) : (sched (F := F) m).duties (sndCell c s) 0 = {0} := by
  have hv : (dsem (5 + s)).val = 5 + s := Nat.mod_eq_of_lt (by omega)
  rw [duties_zero, dutySet_dma, hv]
  exact if_pos ⟨by omega, by omega, by omega⟩

theorem duties_rcv {j : ℕ} (h1 : j < 32) (h2 : j ≠ c.val) : (sched (F := F) m).duties (rcvCell c j) 0 = {0} := by
  have hv : (dsem (38 + j)).val = 38 + j := Nat.mod_eq_of_lt (by omega)
  rw [duties_zero, dutySet_dma, hv]
  exact if_pos ⟨by omega, by omega, by omega⟩

/-- The last cell of departures is never used. -/
theorem duties_spare (r : ℕ) : (sched (F := F) m).duties (sndCell c 32) r = ∅ := by
  by_cases h : r = 0
  · subst h
    rw [duties_zero, dutySet_dma]
    exact if_neg fun h => h.2.1 rfl
  · dsimp only [sched]; exact if_neg fun h' => h h'.1

/-- Nothing arrives at a device from itself. -/
theorem duties_self (r : ℕ) : (sched (F := F) m).duties (rcvCell c c.val) r = ∅ := by
  by_cases h : r = 0
  · subst h
    have := dev_lt c
    have hv : (dsem (38 + c.val)).val = 38 + c.val := Nat.mod_eq_of_lt (by omega)
    rw [duties_zero, dutySet_dma, hv]
    exact if_neg fun h => h.2.2 rfl
  · dsimp only [sched]; exact if_neg fun h' => h h'.1

theorem expect_bar : (sched (F := F) m).expect (barCell c) 0 = 31 := by
  unfold Schedule.expect Schedule.amountOf
  rw [duties_bar]
  refine (Finset.sum_congr rfl fun d _ => show (sched (F := F) m).amount (barCell c) 0 d = 1 from rfl).trans ?_
  rw [Finset.sum_const, Nat.card_Ico, smul_eq_mul]
theorem expect_snd {s : ℕ} (h1 : 1 ≤ s) (h2 : s < 32) : (sched (F := F) m).expect (sndCell c s) 0 = N := by
  unfold Schedule.expect Schedule.amountOf; rw [duties_snd m c h1 h2, Finset.sum_singleton]; rfl
theorem expect_rcv {j : ℕ} (h1 : j < 32) (h2 : j ≠ c.val) : (sched (F := F) m).expect (rcvCell c j) 0 = N := by
  unfold Schedule.expect Schedule.amountOf; rw [duties_rcv m c h1 h2, Finset.sum_singleton]; rfl

theorem payload_bar (d : ℕ) : (sched (F := F) m).payload (barCell c) 0 d = barPay c d := rfl
theorem payload_snd {s : ℕ} (h1 : 1 ≤ s) (h2 : s < 32) (d : ℕ) :
    (sched (F := F) m).payload (sndCell c s) 0 d = rowPts c (16 * s) (16 * s + 16) (PV m c) := by
  have hv : (dsem (5 + s)).val = 5 + s := Nat.mod_eq_of_lt (by omega)
  show dmaPay m c (dsem (5 + s)).val = _
  rw [hv, dmaPay, if_pos (by omega), show 5 + s - 5 = s by omega]
theorem payload_rcv {j : ℕ} (h1 : j < 32) (d : ℕ) :
    (sched (F := F) m).payload (rcvCell c j) 0 d = slotPts c j (CV m c) := by
  have hv : (dsem (38 + j)).val = 38 + j := Nat.mod_eq_of_lt (by omega)
  show dmaPay m c (dsem (38 + j)).val = _
  rw [hv, dmaPay, if_neg (by omega), show 38 + j - 38 = j by omega]

end Sched

/-! ## What each device owes at launch; the levels -/

/-- The signals of the steps from `n` on. -/
def owB (c : Dev nD) (n : ℕ) : CellTallies nD τ sig Unit := ∑ s ∈ Finset.Ico n 32, tallyAt (barCell (dst c s)) () 1
/-- The arrivals of the steps from `n` on. -/
def owR (c : Dev nD) (n : ℕ) : CellTallies nD τ sig Unit := ∑ s ∈ Finset.Ico n 32, tallyAt (rcvCell (dst c s) c.val) () N

theorem Ico_first {a b : ℕ} (h : a < b) : Finset.Ico a b = insert a (Finset.Ico (a + 1) b) := by
  ext x; simp only [Finset.mem_insert, Finset.mem_Ico]; omega
theorem Ico_last {a b : ℕ} (h : a ≤ b) : Finset.Ico a (b + 1) = insert b (Finset.Ico a b) := by
  ext x; simp only [Finset.mem_insert, Finset.mem_Ico]; omega

def O₀ (c : Dev nD) : CellTallies nD τ sig Unit := owR c 1 + owB c 1

theorem owB_step (c : Dev nD) {n : ℕ} (h : n < 32) : owB c n = owB c (n + 1) + tallyAt (barCell (dst c n)) () 1 := by
  unfold owB; rw [Ico_first h, Finset.sum_insert (by simp), add_comm]
theorem owR_step (c : Dev nD) {n : ℕ} (h : n < 32) : owR c n = owR c (n + 1) + tallyAt (rcvCell (dst c n) c.val) () N := by
  unfold owR; rw [Ico_first h, Finset.sum_insert (by simp), add_comm]
theorem owB_end (c : Dev nD) : owB c 32 = 0 := by unfold owB; rw [Finset.Ico_self, Finset.sum_empty]
theorem owR_end (c : Dev nD) : owR c 32 = 0 := by unfold owR; rw [Finset.Ico_self, Finset.sum_empty]

def L (g : GSem nD τ sig) : Finset Unit := if g.1.2 = .tc then {()} else ∅
/-- Barrier cells at 1, cells of arrivals at 2, everything else at 0. -/
def lv (g : GSem nD τ sig) (_ : Unit) : ℕ := match g.2 with
  | .reg _ => 1
  | .dma q => if 38 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) {j : ℕ} (h : j < 32) : lv (rcvCell c j) () = 2 := by
  have hv : (dsem (38 + j)).val = 38 + j := Nat.mod_eq_of_lt (by omega)
  show (if 38 ≤ (dsem (38 + j)).val then 2 else 0) = 2
  rw [hv, if_pos (by omega)]

/-- A sum of single tallies is positive only at one of their cells. -/
theorem sum_tally_pos {f : ℕ → GSem nD τ sig} {k : ℕ} {n : ℕ} {g : GSem nD τ sig} {u : Unit}
    (h : 0 < (∑ s ∈ Finset.Ico n 32, tallyAt (f s) () k : CellTallies nD τ sig Unit) g u) : ∃ s ∈ Finset.Ico n 32, g = f s := by
  by_contra hn
  rw [Finset.sum_apply, Finsupp.finset_sum_apply, Finset.sum_eq_zero] at h
  · exact Nat.lt_irrefl 0 h
  · intro s hs
    rw [tallyAt_apply, if_neg fun h' => hn ⟨s, hs, h'.1⟩]

theorem owR_pos {c : Dev nD} {n : ℕ} {g : GSem nD τ sig} {u : Unit} (h : 0 < owR c n g u) : ∃ s, g = rcvCell (dst c s) c.val := by
  obtain ⟨s, -, e⟩ := sum_tally_pos (f := fun s => rcvCell (dst c s) c.val) h
  exact ⟨s, e⟩

theorem O₀_pos {c : Dev nD} {g : GSem nD τ sig} {u : Unit} (h : 0 < O₀ c g u) :
    (∃ s, g = rcvCell (dst c s) c.val) ∨ ∃ s, g = barCell (dst c s) := by
  unfold O₀ at h
  rw [Pi.add_apply, Finsupp.add_apply] at h
  rcases Nat.eq_zero_or_pos (owR c 1 g u) with h0 | h0
  · obtain ⟨s, -, e⟩ := sum_tally_pos (f := fun s => barCell (dst c s)) (n := 1) (k := 1) (g := g) (u := u) (by
      rw [h0, Nat.zero_add] at h; exact h)
    exact .inr ⟨s, e⟩
  · exact .inl (owR_pos h0)

omit [FloatOps F] in
theorem mayWait_stage (c : Dev nD) (q : DmaSem sig) (hq : q.val < 38) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | ⟨s, rfl⟩ <;> exact Finset.mem_singleton_self _)
      (fun p hp => by
        rw [Finset.mem_singleton.mp hp]
        show (if 38 ≤ q.val then 2 else 0) ≤ 0
        rw [if_neg (by omega)])
      (fun g u hg => by
        rcases O₀_pos hg with ⟨s, rfl⟩ | ⟨s, rfl⟩
        · rw [lv_rcv _ (dev_lt c)]; decide
        · exact Nat.one_pos)
  · rw [MayWait_zero]; iintro -; iempintro

omit [FloatOps F] in
/-- At its barrier wait a device owes arrivals only, all above its barrier cell. -/
theorem mayWait_bar (c : Dev nD) :
    (levAts L lv : sProp 𝕄) ⊢ MayWait (c : Thread nD τ) (.reg barS) () (owR c 1) :=
  MayOwe.of_cut (L := L) (lev := lv) 1 (fun p hp => by rw [Finset.mem_singleton.mp hp, L_tc]; exact Finset.mem_singleton_self _)
    (fun g u hg => by obtain ⟨s, rfl⟩ := owR_pos hg; exact Finset.mem_singleton_self _)
    (fun p hp => by rw [Finset.mem_singleton.mp hp]; exact Nat.le_refl 1)
    (fun g u hg => by obtain ⟨s, rfl⟩ := owR_pos hg; rw [lv_rcv _ (dev_lt c)]; decide)

end Cert.Routed
-- ==== Proof.Steps.lean ====
/-
One rule for each kind of step of the exchange, at a step number `n`: the signal to the device `n` places on, the wait
for everyone's signal, the transfer of a piece to the device `n` places on, the wait for the piece of the device `n`
places back, the wait for a departure, the store of a block of the partial product.

Each rule takes what the device holds before the step to what it holds after it, beside anything else it holds (`R`).
-/
module

public import proofs.«01_k».proof.Proof.Protocol
public import Idealize.SL.BI.BigOpNat

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells everyone knows -/

/-- A device's cells: its barrier cell, its 32 cells of departures, its 32 cells of arrivals. -/
def csem (k : Fin 65) : SemLoc sig := if k.val = 0 then .reg barS else .dma (dsem (5 + k.val))
abbrev kcell (ck : Dev nD × Fin 65) : GSem nD τ sig := ((ck.1 : Thread nD τ), csem ck.2)

theorem kcell_bar (c : Dev nD) : kcell (c, 0) = barCell c := rfl
theorem kcell_snd (c : Dev nD) {s : ℕ} (h1 : 1 ≤ s) (h2 : s < 65) : kcell (c, ⟨s, h2⟩) = sndCell c s := by
  show ((c : Thread nD τ), csem ⟨s, h2⟩) = _
  rw [csem, if_neg (by simp only; omega)]
theorem kcell_rcv (c : Dev nD) {j : ℕ} (h : j < 32) : kcell (c, ⟨33 + j, by omega⟩) = rcvCell c j := by
  rw [kcell_snd c (by omega)]
  show ((c : Thread nD τ), SemLoc.dma (dsem (5 + (33 + j)))) = ((c : Thread nD τ), SemLoc.dma (dsem (38 + j)))
  rw [show 5 + (33 + j) = 38 + j by omega]

/-- A cell's invariant, and that its round 0 has been reached. -/
def Known (g : GSem nD τ sig) : sProp 𝕄 := iprop((∃ κ, cellInv ER (sched m) κ g) ∗ reached ER g 0)
instance known_persistent (g : GSem nD τ sig) : BI.Persistent (Known m g) := by unfold Known; infer_instance

/-- Every cell of every device is known. -/
def Recs : sProp 𝕄 := bigSep Finset.univ fun ck : Dev nD × Fin 65 => Known m (kcell ck)
instance recs_persistent : BI.Persistent (Recs m) := by unfold Recs; infer_instance

theorem known_of (ck : Dev nD × Fin 65) : Recs m ⊢ Known m (kcell ck) := bigSep_elim (Finset.mem_univ ck)
theorem known_bar (c : Dev nD) : Recs m ⊢ Known m (barCell c) := known_of m (c, 0)
theorem known_snd (c : Dev nD) {s : ℕ} (h1 : 1 ≤ s) (h2 : s < 33) : Recs m ⊢ Known m (sndCell c s) := by
  have h := known_of m (c, ⟨s, by omega⟩)
  rwa [kcell_snd c h1] at h
theorem known_rcv (c : Dev nD) {j : ℕ} (h : j < 32) : Recs m ⊢ Known m (rcvCell c j) := by
  have h' := known_of m (c, ⟨33 + j, by omega⟩)
  rwa [kcell_rcv c h] at h'

/-- What device `c` owes, whatever it has waited on. -/
def ow (c : Dev nD) (O : CellTallies nD τ sig Unit) : sProp 𝕄 := iprop(∃ W, owes (c : Thread nD τ) O W)

/-! ## Signalling -/

/-- Before the signal of step `n`: a slot of the landing buffer and a token for each signal to come. -/
def SigSt (c : Dev nD) (n : ℕ) : sProp 𝕄 :=
  iprop(Recs m
    ∗ bigSep (Finset.Ico n 32) (fun s => iprop((∃ f, slotPts (F := F) c (dst c s).val f) ∗ dutyTok ER (barCell (dst c s)) 0 (32 - s)))
    ∗ ow c (owR c 1 + owB c n))

theorem signal_step (c : Dev nD) {n : ℕ} (h1 : 1 ≤ n) (h2 : n < 32) {d : Dev nD} (hd : d = dst c n) {α : Type} {Q : α → sProp 𝕄}
    {k : PUnit → Prog (TpuEff nD τ sig (Elt F) Λ₀ .tc) α} {R : sProp 𝕄} (hnext : iprop(SigSt m c (n + 1) ∗ R) ⊢ run c (k ⟨⟩) Q) :
    iprop(SigSt m c n ∗ R) ⊢ run c (.op (.semSignal ((d, .tc) : Thread nD τ) barS (1#32 : BitVec 32).toInt) k) Q := by
  subst hd
  unfold SigSt ow
  rw [bigSep_Ico_succ_bot h2, owB_step c h2, ← add_assoc, show (1#32 : BitVec 32).toInt = ((1 : ℕ) : ℤ) from rfl]
  iintro ⟨⟨#HR, ⟨⟨Hslot, Htok⟩, Hrest⟩, ⟨%W, HO⟩⟩, HRr⟩
  ihave #HK := (known_bar m (dst c n)) $$ HR
  unfold Known
  icases HK with ⟨⟨%κ, #HI⟩, #Hr⟩
  iapply (Rounds.wp_signal 𝒱₀ ER (sched m) (c : Thread nD τ) none (dst := (dst c n : Thread nD τ)) (κ := κ)
      (d := 32 - n) (by rw [duties_bar, Finset.mem_Ico]; omega) (show (sched (F := F) m).amount (barCell (dst c n)) 0 (32 - n) = 1 from rfl) ()
      (owR c 1 + owB c (n + 1)) rfl) $$ [HO Htok Hslot]
  · isplitr; · iexact HI
    isplitl [HO]; · iexact HO
    isplitl [Htok]; · iexact Htok
    isplitl [Hslot]
    · rw [payload_bar]; unfold barPay; rw [dst_dst, dst_of_mul c (show (n + (32 - n)) % 32 = 0 by omega)]; iexact Hslot
    iexact Hr
  iintro HO
  iapply hnext
  unfold SigSt ow
  isplitr [HRr]
  · isplitr; · iexact HR
    isplitl [Hrest]; · iexact Hrest
    iexists W; iexact HO
  iexact HRr

/-! ## The wait for every device's signal -/

/-- Before the wait: the credit of 31 signals, and nothing left to signal. -/
def BarSt (c : Dev nD) : sProp 𝕄 :=
  iprop(Recs m ∗ cred (tallyAt (barCell c) () 31) ∗ atPos ER (barCell c) 0 ∅ 0 ∗ levAts L lv ∗ ow c (owR c 1))

/-- After it: the slot for this device's rows of every other device's landing buffer. -/
def BarSt' (c : Dev nD) : sProp 𝕄 :=
  iprop(Recs m ∗ atPos ER (barCell c) 1 ∅ 0 ∗ ow c (owR c 1)
    ∗ bigSep (Finset.Ico 1 32) (fun s => iprop(∃ f, slotPts (F := F) (dst c s) c.val f)))

theorem barrier_step (c : Dev nD) {α : Type} {Q : α → sProp 𝕄}
    {k : PUnit → Prog (TpuEff nD τ sig (Elt F) Λ₀ .tc) α} {R : sProp 𝕄} (hnext : iprop(BarSt' m c ∗ R) ⊢ run c (k ⟨⟩) Q) :
    iprop(BarSt m c ∗ R) ⊢ run c (.op (.semWait barS (31#32 : BitVec 32).toInt) k) Q := by
  unfold BarSt ow
  rw [show (31#32 : BitVec 32).toInt = ((31 : ℕ) : ℤ) from rfl]
  iintro ⟨⟨#HR, Hc, Hat, #Hlev, ⟨%W, HO⟩⟩, HRr⟩
  ihave #HK := (known_bar m c) $$ HR
  unfold Known
  icases HK with ⟨⟨%κ, #HI⟩, #Hr⟩
  iapply (Rounds.wp_wait_rest_token 𝒱₀ ER (sched m) (c : Thread nD τ) none (κ := κ)
      (wpE_semWait_eq 𝒱₀ (c : Thread nD τ) none Set.univ) (Set.mem_univ _) () (O := owR c 1) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  rw [Finset.sdiff_empty, duties_bar]
  iintro ⟨HO, Hat, -, Hpay⟩
  iapply hnext
  unfold BarSt' ow
  isplitr [HRr]
  · isplitr; · iexact HR
    isplitl [Hat]; · iexact Hat
    isplitl [HO]; · iexists _; iexact HO
    iexact Hpay
  iexact HRr

/-! ## Rows of the partial product -/

omit [FloatOps F] in
/-- Rows cut in two. -/
theorem rowPts_cut (c : Dev nD) {a b d : ℕ} (h1 : a ≤ b) (h2 : b ≤ d) (f : Buf (Elt F) ((c : Thread nD τ).loc cc0_scratch0)) :
    rowPts (F := F) c a d f ⊣⊢ iprop(rowPts c a b f ∗ rowPts c b d f) := by
  unfold rowPts
  rw [show rowS a d = rowS a b ∪ rowS b d by
    ext i; rw [Finset.mem_union, mem_rowS, mem_rowS, mem_rowS]; omega]
  refine pointsTo_union ?_
  rw [Finset.disjoint_left]
  intro i hi hj
  rw [mem_rowS] at hi hj
  omega

/-- The write of a block of 128 rows makes them the partial product's. -/
theorem write_chunk (c : Dev nD) {q : ℕ} (hq : q < 4) {off : Fin 2 → ℕ} {inb} (hoff : off = ![128 * q, 0])
    (f : Buf (Elt F) ((c : Thread nD τ).loc cc0_scratch0)) :
    ∀ i ∈ rowS (128 * q) (128 * q + 128),
      (pM.access (Rect.unit (s := S512x512) off S128x512.size inb)).write (Elt F) f (chunk m c q) Finset.univ i = PV m c i := by
  subst hoff
  intro i hi
  rw [mem_rowS] at hi
  have hset : i ∈ (pM.access (Rect.unit (s := S512x512) ![128 * q, 0] S128x512.size inb)).set := by
    rw [show (pM.access (Rect.unit (s := S512x512) ![128 * q, 0] S128x512.size inb)).set = rowS (128 * q) (128 * q + 128) from
      (View.set_slice_whole _ _).trans (rect_rows (128 * q) 128 S128x512.size rfl inb), mem_rowS]
    exact hi
  obtain ⟨x, -, hx⟩ := Finset.mem_map.mp hset
  rw [← hx, View.write_emb_of_mem _ _ (Finset.mem_univ x)]
  have hi0 : (i 0).val = 128 * q + 1 * (x 0).val := by rw [← hx]; rfl
  have hi1 : (i 1).val = 0 + 1 * (x 1).val := by rw [← hx]; rfl
  have hx0 : (x 0).val < 128 := (x 0).isLt
  rw [hx]
  show chunk m c q x = chunk m c ((i 0).val / 128) (crow (i 0).val (i 1).val)
  rw [show (i 0).val / 128 = q by omega]
  congr 1
  have hx1 : (x 1).val < 512 := (x 1).isLt
  funext d
  match d with
  | ⟨0, _⟩ => apply Fin.ext; show (x 0).val = (i 0).val % 128; omega
  | ⟨1, _⟩ => apply Fin.ext; show (x 1).val = (i 1).val % 512; omega

/-- The load that precedes the store of block `q`, and the store. -/
theorem store_step (c : Dev nD) {q a : ℕ} (ha : a ≤ 128 * q) (hq : q < 4) {off : Fin 2 → ℕ} {inb} (hoff : off = ![128 * q, 0])
    {w : Vec F S128x512 .bf16} (hw : w = chunk m c q)
    {hl hx hm} {α : Type} {Q : α → sProp 𝕄}
    {k : PUnit → Prog (TpuEff nD τ sig (Elt F) Λ₀ .tc) α} {R : sProp 𝕄}
    (hnext : iprop((rowPts c a (128 * q + 128) (PV m c) ∗ ∃ f, rowPts (F := F) c (128 * q + 128) 512 f) ∗ R) ⊢ run c (k ⟨⟩) Q) :
    iprop((rowPts c a (128 * q) (PV m c) ∗ ∃ f, rowPts (F := F) c (128 * q) 512 f) ∗ R) ⊢ run c
      (.op (.load pM (Rect.unit (s := S512x512) off S128x512.size inb).toLoadRect hl) fun _ =>
        .op (.store pM (Rect.unit (s := S512x512) off S128x512.size inb) w Finset.univ hx hm) k) Q := by
  subst hw
  have hset : (pM.access (Rect.unit (s := S512x512) off S128x512.size inb)).set = rowS (128 * q) (128 * q + 128) := by
    subst hoff
    exact (View.set_slice_whole _ _).trans (rect_rows (128 * q) 128 S128x512.size rfl inb)
  iintro ⟨⟨Hdone, ⟨%f, Hrest⟩⟩, HRr⟩
  ihave Hr2 := (rowPts_cut c (show 128 * q ≤ 128 * q + 128 by omega) (show 128 * q + 128 ≤ 512 by omega) f).1 $$ Hrest
  icases Hr2 with ⟨Hb, Hrest⟩
  unfold rowPts
  iapply (wp_load_rect 𝒱₀ (c : Thread nD τ) none Set.univ (m := pM) (r := Rect.unit (s := S512x512) off S128x512.size inb) (S := rowS (128 * q) (128 * q + 128)) (le_of_eq hset)) $$ Hb
  iintro Hb
  iapply (wp_store 𝒱₀ (c : Thread nD τ) none Set.univ (m := pM) (r := Rect.unit (s := S512x512) off S128x512.size inb) (S := rowS (128 * q) (128 * q + 128)) (Mk := Finset.univ)
    (le_of_eq hset)) $$ Hb
  iintro Hb
  ihave Hb := (Entails.of_eq (pointsTo_congr (write_chunk m c hq hoff f))) $$ Hb
  iapply hnext
  isplitr [HRr]
  · isplitl [Hdone Hb]
    · iapply (rowPts_cut c ha (show 128 * q ≤ 128 * q + 128 by omega) (PV m c)).2
      unfold rowPts
      isplitl [Hdone] <;> iassumption
    iexists f; unfold rowPts; iexact Hrest
  iexact HRr

/-! ## Sending -/

/-- What lands on the device `n` places on is what its landing buffer is to hold. -/
theorem landed (c : Dev nD) {n : ℕ} (h1 : 1 ≤ n) (h2 : n < 32) {off0 : Fin 2 → ℕ} {inb0} (hoff0 : off0 = ![16 * n, 0])
    {off2 : Fin 3 → ℕ} {inb2} (hoff2 : off2 = ![c.val, 0, 0]) (f : Buf (Elt F) ((dst c n : Thread nD τ).loc cc0_scratch1)) :
    ∀ i ∈ slotS c.val, (slotM off2 inb2).view.write (Elt F) f ((rowsM off0 inb0).view.read (Elt F) (PV m c)) Finset.univ i
      = CV m (dst c n) i := by
  subst hoff0 hoff2
  intro i hi
  have hset := hi
  rw [← slotM_set c.val _ inb2 rfl] at hset
  obtain ⟨x, -, hx⟩ := Finset.mem_map.mp hset
  have e0 : (i 0).val = c.val := by rw [← hx]; exact slotM_emb0 _ _ x
  have e1 : (i 1).val = 0 + (x 0).val := by rw [← hx]; exact slotM_emb1 _ _ x
  have e2 : (i 2).val = 0 + (x 1).val := by rw [← hx]; exact slotM_emb2 _ _ x
  have r0 := rowsM_emb0 ![16 * n, 0] inb0 x
  have r1 := rowsM_emb1 ![16 * n, 0] inb0 x
  have hx0 : (x 0).val < 16 := (x 0).isLt
  have hc := dev_lt c
  rw [← hx, View.write_emb_of_mem _ _ (Finset.mem_univ x), hx]
  show PV m c ((rowsM ![16 * n, 0] inb0).view.emb x)
    = PV m (i 0) (prow (16 * (((dst c n).val + 32 - (i 0).val) % 32) + (i 1).val) (i 2).val)
  rw [show i 0 = c from Fin.ext e0]
  congr 1
  refine eq_prow (r0.trans ?_) (r1.trans ?_)
  · show 16 * n + (x 0).val = _
    rw [dst_val, show ((c.val + n) % 32 + 32 - c.val) % 32 = n by omega]
    omega
  · show 0 + (x 1).val = _
    omega

/-- Before the transfer of step `n`, the rows up to `16 * hi` computed: the rows not yet sent, the slots and the tokens of
    the transfers to come, the credit of the departures so far. -/
def SndSt (c : Dev nD) (n hi : ℕ) : sProp 𝕄 :=
  iprop(Recs m ∗ rowPts c (16 * n) (16 * hi) (PV m c)
    ∗ bigSep (Finset.Ico n 32) (fun s => iprop((∃ f, slotPts (F := F) (dst c s) c.val f)
        ∗ dutyTok ER (sndCell c s) 0 0 ∗ dutyTok ER (rcvCell (dst c s) c.val) 0 0))
    ∗ bigSep (Finset.Ico 1 n) (fun s => cred (tallyAt (sndCell c s) () N))
    ∗ ow c (owR c n))

theorem send_step (c : Dev nD) {n hi : ℕ} (h1 : 1 ≤ n) (h2 : n < 32) (hhi : n < hi) {d : Dev nD} (hd : d = dst c n)
    {off0 : Fin 2 → ℕ} {inb0} (hoff0 : off0 = ![16 * n, 0]) {off2 : Fin 3 → ℕ} {inb2} (hoff2 : off2 = ![c.val, 0, 0])
    {sS sR : DmaSem sig} (hS : sS = dsem (5 + n)) (hR : sR = dsem (38 + c.val))
    {hsc hsrc hdst hsem} {α : Type} {Q : α → sProp 𝕄}
    {k : PUnit → Prog (TpuEff nD τ sig (Elt F) Λ₀ .tc) α} {R : sProp 𝕄} (hnext : iprop(SndSt m c (n + 1) hi ∗ R) ⊢ run c (k ⟨⟩) Q) :
    iprop(SndSt m c n hi ∗ R) ⊢ run c
      (.op (.enqueueDma (rowsM off0 inb0) (.remote (Dev.tc d : Thread nD τ) (slotM off2 inb2) (.dma sS) hsc) (.dma sR) hsrc hdst hsem) k) Q := by
  subst hd hS hR
  unfold SndSt ow
  rw [bigSep_Ico_succ_bot h2, owR_step c h2]
  iintro ⟨⟨#HR, Hrows, ⟨⟨⟨%f, Hslot⟩, Ht1, Ht2⟩, Hrest⟩, Hcr, ⟨%W, HO⟩⟩, HRr⟩
  ihave #HK1 := (known_snd m c h1 (show n < 33 by omega)) $$ HR
  ihave #HK2 := (known_rcv m (dst c n) (dev_lt c)) $$ HR
  unfold Known
  icases HK1 with ⟨⟨%κ₁, #HI1⟩, #Hr1⟩
  icases HK2 with ⟨⟨%κ₂, #HI2⟩, #Hr2⟩
  ihave Hrows2 := (rowPts_cut c (show 16 * n ≤ 16 * n + 16 by omega) (show 16 * n + 16 ≤ 16 * hi by omega) (PV m c)).1 $$ Hrows
  icases Hrows2 with ⟨Hp, Hrows⟩
  iapply (Rounds.wp_send_pointsTo 𝒱₀ ER (sched m) (c : Thread nD τ) none (κ₁ := κ₁) (κ₂ := κ₂)
      (src := rowsM off0 inb0) (dst := slotM off2 inb2) (c' := (dst c n : Thread nD τ))
      (r₁ := 0) (r₂ := 0) (d₁ := 0) (d₂ := 0) (fs := PV m c) (fd := f) (q := fullShare)
      (by rw [duties_snd m c h1 h2]; exact Finset.mem_singleton_self _)
      (by rw [duties_rcv m (dst c n) (dev_lt c) (by rw [dst_val]; have := dev_lt c; omega)]; exact Finset.mem_singleton_self _)
      () () N rfl rfl rfl (owR c (n + 1)) rfl (W := W)
      (by rw [payload_snd m c h1 h2, rowsM_set (16 * n) off0 inb0 hoff0]; exact BI.Entails.refl _)
      (by
        rw [payload_rcv m (dst c n) (dev_lt c), slotM_set c.val off2 inb2 hoff2]
        exact Entails.of_eq (pointsTo_congr (landed m c h1 h2 hoff0 hoff2 f)))) $$ [Hp Hslot HO Ht1 Ht2]
  · isplitr; · iexact HI1
    isplitr; · iexact HI2
    isplitl [Hp]; · rw [rowsM_set (16 * n) off0 inb0 hoff0]; unfold rowPts; iexact Hp
    isplitl [Hslot]; · rw [slotM_set c.val off2 inb2 hoff2]; unfold slotPts; iexact Hslot
    isplitl [HO]; · iexact HO
    isplitl [Ht1]; · iexact Ht1
    isplitr; · iexact Hr1
    isplitl [Ht2]; · iexact Ht2
    iexact Hr2
  iintro ⟨Hc, HO⟩
  iapply hnext
  unfold SndSt ow
  rw [bigSep_Ico_succ_top h1]
  isplitr [HRr]
  · isplitr; · iexact HR
    isplitl [Hrows]; · rw [show 16 * (n + 1) = 16 * n + 16 by omega]; iexact Hrows
    isplitl [Hrest]; · iexact Hrest
    isplitl [Hcr Hc]
    · isplitl [Hc]; · iexact Hc
      iexact Hcr
    iexists W; iexact HO
  iexact HRr

/-! ## Receiving -/

/-- The device `k` places back from `c`. -/
def src (c : Dev nD) (k : ℕ) : ℕ := (c.val + 32 - k) % 32

theorem src_lt (c : Dev nD) (k : ℕ) : src c k < 32 := Nat.mod_lt _ (by decide)
theorem src_ne (c : Dev nD) {k : ℕ} (h1 : 1 ≤ k) (h2 : k < 32) : src c k ≠ c.val := by
  have := dev_lt c; unfold src; omega

/-- The piece device `c` receives from the device `k` places back. -/
def piece (c : Dev nD) (k : ℕ) : Vec F S1x16x512 .bf16 :=
  fun y => PV m (dst c (32 - k)) (prow (16 * k + (y 1).val) (y 2).val)

/-- The slot of the device `n` places back, read. -/
theorem read_piece (c : Dev nD) {n : ℕ} (h1 : 1 ≤ n) (h2 : n < 32) {off : Fin 3 → ℕ} {inb} (hoff : off = ![src c n, 0, 0]) :
    cM.view.readAt (Elt F) (Rect.unit (s := S32x16x512) off S1x16x512.size inb).toLoadRect (CV m c) = piece m c n := by
  subst hoff
  funext y
  have hc := dev_lt c
  have hy0 : (y 0).val < 1 := (y 0).isLt
  show PV m ((Rect.unit (s := S32x16x512) ![src c n, 0, 0] S1x16x512.size inb).emb y 0)
      (prow (16 * ((c.val + 32 - (src c n + 1 * (y 0).val)) % 32) + (0 + 1 * (y 1).val)) (0 + 1 * (y 2).val)) = _
  have hdev : (Rect.unit (s := S32x16x512) ![src c n, 0, 0] S1x16x512.size inb).emb y 0 = dst c (32 - n) := by
    apply Fin.ext
    show src c n + 1 * (y 0).val = (c.val + (32 - n)) % 32
    unfold src; omega
  rw [hdev]
  unfold piece
  congr 2
  · unfold src; omega
  · omega

/-- Before the wait for the piece of the device `n` places back: the credit and the place in the round of each piece to
    come; the pieces come. -/
def RcvSt (c : Dev nD) (n : ℕ) : sProp 𝕄 :=
  iprop(Recs m
    ∗ bigSep (Finset.Ico n 32) (fun k => iprop(cred (tallyAt (rcvCell c (src c k)) () N) ∗ atPos ER (rcvCell c (src c k)) 0 ∅ 0))
    ∗ bigSep (Finset.Ico 1 n) (fun k => iprop(slotPts c (src c k) (CV m c) ∗ atPos ER (rcvCell c (src c k)) 1 ∅ 0))
    ∗ ow c 0)

theorem recv_step (c : Dev nD) {n : ℕ} (h1 : 1 ≤ n) (h2 : n < 32)
    {off0 : Fin 2 → ℕ} {inb0} {off5 : Fin 3 → ℕ} {inb5} {sR : DmaSem sig} (hR : sR = dsem (38 + src c n))
    {hsrc hdst} {α : Type} {Q : α → sProp 𝕄}
    {k : PUnit → Prog (TpuEff nD τ sig (Elt F) Λ₀ .tc) α} {R : sProp 𝕄}
    (hnext : iprop(RcvSt m c (n + 1) ∗ R) ⊢ run c (k ⟨⟩) Q) :
    iprop(RcvSt m c n ∗ R) ⊢ run c (.op (.waitDma2 sR (rowsM off0 inb0) (slotM off5 inb5) hsrc hdst) k) Q := by
  subst hR
  unfold RcvSt ow
  rw [bigSep_Ico_succ_bot h2]
  iintro ⟨⟨#HR, ⟨⟨Hc, Hat⟩, Hrest⟩, Hgot, ⟨%W, HO⟩⟩, HRr⟩
  ihave #HK := (known_rcv m c (src_lt c n)) $$ HR
  unfold Known
  icases HK with ⟨⟨%κ, #HI⟩, #Hr⟩
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, expect_rcv m c (src_lt c n) (src_ne c h1 h2)])) $$ [Hc HO Hat]
  · isplitr; · iexact HI
    isplitl [Hc]; · iexact Hc
    isplitl [HO]; · iexact HO
    isplitr; · rw [MayWait_zero]; iempintro
    iexact Hat
  rw [Finset.sdiff_empty, duties_rcv m c (src_lt c n) (src_ne c h1 h2), bigSep_singleton, payload_rcv m c (src_lt c n)]
  iintro ⟨HO, Hat, -, Hpay⟩
  iapply hnext
  unfold RcvSt ow
  rw [bigSep_Ico_succ_top h1]
  isplitr [HRr]
  · isplitr; · iexact HR
    isplitl [Hrest]; · iexact Hrest
    isplitl [Hgot Hpay Hat]
    · isplitl [Hpay Hat]
      · isplitl [Hpay]; · iexact Hpay
        iexact Hat
      iexact Hgot
    iexists _; iexact HO
  iexact HRr

/-- The piece that has just come, loaded. -/
theorem take_step (c : Dev nD) {n : ℕ} (h1 : 1 ≤ n) (h2 : n < 32) {off6 : Fin 3 → ℕ} {inb6} (hoff6 : off6 = ![src c n, 0, 0])
    {hl} {α : Type} {Q : α → sProp 𝕄} {k : Vec F S1x16x512 .bf16 → Prog (TpuEff nD τ sig (Elt F) Λ₀ .tc) α} {R : sProp 𝕄}
    (hnext : iprop(RcvSt m c (n + 1) ∗ R) ⊢ run c (k (piece m c n)) Q) :
    iprop(RcvSt m c (n + 1) ∗ R) ⊢ run c
      (.op (.load cM (Rect.unit (s := S32x16x512) off6 S1x16x512.size inb6).toLoadRect hl) k) Q := by
  have hset : (cM.access (Rect.unit (s := S32x16x512) off6 S1x16x512.size inb6)).set = slotS (src c n) := by
    subst hoff6
    exact (View.set_slice_whole _ _).trans (rect_slot (src c n) inb6)
  have hv : (cM.access (Rect.unit (s := S32x16x512) off6 S1x16x512.size inb6)).read (Elt F) (CV m c) = piece m c n :=
    read_piece m c h1 h2 hoff6
  unfold RcvSt at hnext ⊢
  rw [bigSep_Ico_succ_top h1] at hnext ⊢
  iintro ⟨⟨#HR, Hrest, ⟨⟨Hpay, Hat⟩, Hgot⟩, HO⟩, HRr⟩
  unfold slotPts
  iapply (wp_load_rect 𝒱₀ (c : Thread nD τ) none Set.univ (m := cM) (r := Rect.unit (s := S32x16x512) off6 S1x16x512.size inb6)
    (S := slotS (src c n)) (le_of_eq hset)) $$ Hpay
  iintro Hpay
  rw [hv]
  iapply hnext
  isplitr [HRr]
  · isplitr; · iexact HR
    isplitl [Hrest]; · iexact Hrest
    isplitr [HO]
    · isplitl [Hpay Hat]
      · isplitl [Hpay]; · unfold slotPts; iexact Hpay
        iexact Hat
      unfold slotPts; iexact Hgot
    iexact HO
  iexact HRr

/-! ## Waiting for the departures -/

/-- Before the wait for the departure of step `n`: the credit and the place in the round of each departure to come; the
    rows come back. -/
def DepSt (c : Dev nD) (n : ℕ) : sProp 𝕄 :=
  iprop(Recs m
    ∗ bigSep (Finset.Ico n 32) (fun s => iprop(cred (tallyAt (sndCell c s) () N) ∗ atPos ER (sndCell c s) 0 ∅ 0))
    ∗ bigSep (Finset.Ico 1 n) (fun s => atPos ER (sndCell c s) 1 ∅ 0)
    ∗ rowPts c 16 (16 * n) (PV m c)
    ∗ ow c 0)

theorem depart_step (c : Dev nD) {n : ℕ} (h1 : 1 ≤ n) (h2 : n < 32)
    {off0 : Fin 2 → ℕ} {inb0} {off5 : Fin 3 → ℕ} {inb5}
    {sS : DmaSem sig} (hS : sS = dsem (5 + n))
    {hsrc hdst} {α : Type} {Q : α → sProp 𝕄}
    {k : PUnit → Prog (TpuEff nD τ sig (Elt F) Λ₀ .tc) α} {R : sProp 𝕄} (hnext : iprop(DepSt m c (n + 1) ∗ R) ⊢ run c (k ⟨⟩) Q) :
    iprop(DepSt m c n ∗ R) ⊢ run c
      (.op (.waitDma2 sS (slotM off5 inb5) (rowsM off0 inb0) hsrc hdst) k) Q := by
  subst hS
  unfold DepSt ow
  rw [bigSep_Ico_succ_bot h2]
  iintro ⟨⟨#HR, ⟨⟨Hc, Hat⟩, Hrest⟩, Hgot, Hrows, ⟨%W, HO⟩⟩, HRr⟩
  ihave #HK := (known_snd m c h1 (show n < 33 by omega)) $$ HR
  unfold Known
  icases HK with ⟨⟨%κ, #HI⟩, #Hr⟩
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, expect_snd m c h1 h2])) $$ [Hc HO Hat]
  · isplitr; · iexact HI
    isplitl [Hc]; · iexact Hc
    isplitl [HO]; · iexact HO
    isplitr; · rw [MayWait_zero]; iempintro
    iexact Hat
  rw [Finset.sdiff_empty, duties_snd m c h1 h2, bigSep_singleton, payload_snd m c h1 h2]
  iintro ⟨HO, Hat, -, Hpay⟩
  iapply hnext
  unfold DepSt ow
  rw [bigSep_Ico_succ_top h1]
  isplitr [HRr]
  · isplitr; · iexact HR
    isplitl [Hrest]; · iexact Hrest
    isplitl [Hgot Hat]
    · isplitl [Hat]; · iexact Hat
      iexact Hgot
    isplitl [Hrows Hpay]
    · iapply (rowPts_cut c (show 16 ≤ 16 * n by omega) (show 16 * n ≤ 16 * (n + 1) by omega) (PV m c)).2
      isplitl [Hrows]; · iexact Hrows
      rw [show 16 * (n + 1) = 16 * n + 16 by omega]; iexact Hpay
    iexists _; iexact HO
  iexact HRr

end Cert.Routed
-- ==== Proof.Parts.lean ====
/-
A device's program is a chain of parts. `Spec` says what a part does to what the device holds and what it returns; `chain`
puts a part's specification before the rest. The steps are restated on the very operands the parts use.
-/
module

public import proofs.«01_k».proof.Proof.Steps

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- From `S`, the program `p` ends with the value `v`, holding `T`. -/
def Spec (c : Dev nD) {β : Type} (S : sProp 𝕄) (p : Prog (TpuEff nD τ sig (Elt F) Λ₀ .tc) β) (T : sProp 𝕄) (v : β) : Prop :=
  ∀ Q : β → sProp 𝕄, (T ⊢ Q v) → S ⊢ run c p Q

theorem chain (c : Dev nD) {α β : Type} {p : Prog (TpuEff nD τ sig (Elt F) Λ₀ .tc) β} {f : β → Prog (TpuEff nD τ sig (Elt F) Λ₀ .tc) α}
    {Q : α → sProp 𝕄} {S T : sProp 𝕄} {v : β} (h1 : Spec c S p T v) (h2 : T ⊢ run c (f v) Q) : S ⊢ run c (p >>= f) Q :=
  (h1 (fun r => run c (f r) Q) h2).trans (Entails.of_eq (wp_bind ..).symm)

theorem done (c : Dev nD) {β : Type} {v : β} {Q : β → sProp 𝕄} {T : sProp 𝕄} (h : T ⊢ Q v) : T ⊢ run c (.ret v) Q := by
  refine h.trans ?_
  simp only [wp_ret]
  iintro H
  imodintro
  iexact H

/-- The end of a program, where cells may still be closed. -/
theorem done_upd (c : Dev nD) {β : Type} {v : β} {Q : β → sProp 𝕄} {T : sProp 𝕄} (h : T ⊢ iprop(|={Set.univ}=> Q v)) : T ⊢ run c (.ret v) Q := by
  simp only [wp_ret]
  exact h

/-- A part of the body at the buffers the kernel runs it on. -/
abbrev onBufs {α : Type 1} (p : (a0 : Memref sig .tc .vmem S512x256 .f32) → a0.IsWhole → (a1 : Memref sig .tc .vmem S256x64 .f32) → a1.IsWhole →
    (a2 : Memref sig .tc .vmem S512x1 .i32) → a2.IsWhole → (a3 : Memref sig .tc .vmem S2x256x512 .f32) → a3.IsWhole →
    (a4 : Memref sig .tc .vmem S256x512 .f32) → a4.IsWhole → (a5 : Memref sig .tc .vmem S16x512 .f32) → a5.IsWhole →
    (a6 : Memref sig .tc .vmem S512x512 .bf16) → a6.IsWhole → (a7 : Memref sig .tc .vmem S32x16x512 .bf16) → a7.IsWhole →
    DmaSems sig S32 → DmaSems sig S32 → α) : α :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3

/-- The barrier's semaphores, as the body passes them on. -/
abbrev barArr : Sems sig S_ := SemArray.scalar (sig.barrier 0 rfl)

/-- A staging buffer of device `c`, with its contents. -/
abbrev stg (c : Dev nD) (b : Ref sig .tc) (X : b.ty.Contents (Elt F)) : sProp 𝕄 := (c : Thread nD τ).loc b ↦{fullShare} X

omit [FloatOps F] in
theorem rowPts_nil (c : Dev nD) (a : ℕ) (f) : rowPts (F := F) c a a f = iprop(emp) := by
  unfold rowPts
  rw [show rowS a a = ∅ from Finset.filter_eq_empty_iff.mpr fun i _ h => by omega, pointsTo_empty]

theorem zero2 : (![0, 0] : Fin 2 → ℕ) = fun _ => 0 := funext fun a => by fin_cases a <;> rfl
theorem zero3 : (![0, 0, 0] : Fin 3 → ℕ) = fun _ => 0 := funext fun a => by fin_cases a <;> rfl

abbrev M0 : Memref sig .tc .vmem S512x256 .f32 := Memref.whole cc0_stg0_0
abbrev M1 : Memref sig .tc .vmem S256x64 .f32 := Memref.whole cc0_stg1_0
abbrev M2 : Memref sig .tc .vmem S512x1 .i32 := Memref.whole cc0_stg2_0
abbrev M3 : Memref sig .tc .vmem S2x256x512 .f32 := Memref.whole cc0_stg3_0
abbrev M4 : Memref sig .tc .vmem S256x512 .f32 := Memref.whole cc0_stg4_0
abbrev M5 : Memref sig .tc .vmem S16x512 .f32 := Memref.whole cc0_stg5_0

omit [FloatOps F] in
theorem read0 {inb} (f : (cc0_stg0_0 : Ref sig .tc).ty.Contents (Elt F)) :
    M0.view.readAt (Elt F) (Rect.unit (s := S512x256) ![0, 0] S512x256.size inb).toLoadRect f = f :=
  Memref.readAt_unit_zero (Elt F) cc0_stg0_0 zero2 _ f
omit [FloatOps F] in
theorem read1 {inb} (f : (cc0_stg1_0 : Ref sig .tc).ty.Contents (Elt F)) :
    M1.view.readAt (Elt F) (Rect.unit (s := S256x64) ![0, 0] S256x64.size inb).toLoadRect f = f :=
  Memref.readAt_unit_zero (Elt F) cc0_stg1_0 zero2 _ f
omit [FloatOps F] in
theorem read2 {inb} (f : (cc0_stg2_0 : Ref sig .tc).ty.Contents (Elt F)) :
    M2.view.readAt (Elt F) (Rect.unit (s := S512x1) ![0, 0] S512x1.size inb).toLoadRect f = f :=
  Memref.readAt_unit_zero (Elt F) cc0_stg2_0 zero2 _ f
omit [FloatOps F] in
theorem read3 {inb} (f : (cc0_stg3_0 : Ref sig .tc).ty.Contents (Elt F)) :
    M3.view.readAt (Elt F) (Rect.unit (s := S2x256x512) ![0, 0, 0] S2x256x512.size inb).toLoadRect f = f :=
  Memref.readAt_unit_zero (Elt F) cc0_stg3_0 zero3 _ f
omit [FloatOps F] in
theorem read4 {inb} (f : (cc0_stg4_0 : Ref sig .tc).ty.Contents (Elt F)) :
    M4.view.readAt (Elt F) (Rect.unit (s := S256x512) ![0, 0] S256x512.size inb).toLoadRect f = f :=
  Memref.readAt_unit_zero (Elt F) cc0_stg4_0 zero2 _ f
omit [FloatOps F] in
theorem write5 {inb} (f w : (cc0_stg5_0 : Ref sig .tc).ty.Contents (Elt F)) :
    (M5.access (Rect.unit (s := S16x512) ![0, 0] S16x512.size inb) : View sig .tc _ _ _).write (Elt F) f w Finset.univ = w :=
  Memref.write_access_unit_zero_univ (Elt F) cc0_stg5_0 zero2 _ f w

/-! ## The steps on the body's own operands -/

theorem send (c : Dev nD) {n hi : ℕ} (h1 : 1 ≤ n) (h2 : n < 32) (hhi : n < hi) {d : Dev nD} (hd : d.val = (c.val + n) % 32)
    {off0 : Fin 2 → ℕ} {inb0} (hoff0 : off0 = ![16 * n, 0]) {inb2} {offS : Fin 1 → ℕ} {inbS} (hS : offS = ![n - 1]) {inbR}
    {hsc hsrc hdst hsem} {α : Type} {Q : α → sProp 𝕄}
    {k : PUnit → Prog (TpuEff nD τ sig (Elt F) Λ₀ .tc) α} {R : sProp 𝕄} (hnext : iprop(SndSt m c (n + 1) hi ∗ R) ⊢ run c (k ⟨⟩) Q) :
    iprop(SndSt m c n hi ∗ R) ⊢ run c
      (.op (.enqueueDma (rowsM off0 inb0) (.remote (Dev.tc d : Thread nD τ) (slotM (k0_off2 c) inb2)
          (.dma ((cc0_scratch2.slice (Rect.unit (s := S32) offS S1.size inbS)).squeeze S_ squeezes_S1_S_).sem) hsc)
        (.dma ((cc0_scratch3.slice (Rect.unit (s := S32) (k0_off1 c) S1.size inbR)).squeeze S_ squeezes_S1_S_).sem) hsrc hdst hsem) k) Q :=
  send_step m c h1 h2 hhi (Fin.ext hd) hoff0 (k0_off2_eq c)
    ((snd_sem offS _ _).trans (by rw [hS]; show dsem (6 + (n - 1)) = _; rw [show 6 + (n - 1) = 5 + n by omega]))
    ((rcv_sem _ _ _).trans (by rw [k0_off1_eq]; rfl)) hnext

theorem depart (c : Dev nD) {n : ℕ} (h1 : 1 ≤ n) (h2 : n < 32) {off0 : Fin 2 → ℕ} {inb0} {off5 : Fin 3 → ℕ} {inb5}
    {offS : Fin 1 → ℕ} {inbS} (hS : offS = ![n - 1]) {hsrc hdst} {α : Type} {Q : α → sProp 𝕄}
    {k : PUnit → Prog (TpuEff nD τ sig (Elt F) Λ₀ .tc) α} {R : sProp 𝕄} (hnext : iprop(DepSt m c (n + 1) ∗ R) ⊢ run c (k ⟨⟩) Q) :
    iprop(DepSt m c n ∗ R) ⊢ run c
      (.op (.waitDma2 ((cc0_scratch2.slice (Rect.unit (s := S32) offS S1.size inbS)).squeeze S_ squeezes_S1_S_).sem
        (slotM off5 inb5) (rowsM off0 inb0) hsrc hdst) k) Q :=
  depart_step m c h1 h2
    ((snd_sem offS _ _).trans (by rw [hS]; show dsem (6 + (n - 1)) = _; rw [show 6 + (n - 1) = 5 + n by omega])) hnext

theorem src_closed (c : Dev nD) {n : ℕ} (h1 : 1 ≤ n) (h2 : n < 32) : ((c.val + 31) - (n - 1)) % 32 = src c n := by
  have := dev_lt c; unfold src; congr 1; omega

theorem recv (c : Dev nD) {n : ℕ} (h1 : 1 ≤ n) (h2 : n < 32) {off0 : Fin 2 → ℕ} {inb0} {off5 : Fin 3 → ℕ} {inb5} {inb4}
    {hsrc hdst} {α : Type} {Q : α → sProp 𝕄}
    {k : PUnit → Prog (TpuEff nD τ sig (Elt F) Λ₀ .tc) α} {R : sProp 𝕄}
    (hnext : iprop(RcvSt m c (n + 1) ∗ R) ⊢ run c (k ⟨⟩) Q) :
    iprop(RcvSt m c n ∗ R) ⊢ run c
      (.op (.waitDma2 ((cc0_scratch3.slice (Rect.unit (s := S32) (k0_off4 c (BitVec.ofNat 32 n)) S1.size inb4)).squeeze S_ squeezes_S1_S_).sem
        (rowsM off0 inb0) (slotM off5 inb5) hsrc hdst) k) Q :=
  recv_step m c h1 h2
    ((rcv_sem _ _ _).trans (by
      have e := k0_off4_eq c ⟨n - 1, by omega⟩
      simp only [show 1 + (n - 1) = n by omega] at e
      rw [e, ← src_closed c h1 h2]; rfl)) hnext

theorem take (c : Dev nD) {n : ℕ} (h1 : 1 ≤ n) (h2 : n < 32) {inb6} {hl} {α : Type} {Q : α → sProp 𝕄}
    {k : Vec F S1x16x512 .bf16 → Prog (TpuEff nD τ sig (Elt F) Λ₀ .tc) α} {R : sProp 𝕄}
    (hnext : iprop(RcvSt m c (n + 1) ∗ R) ⊢ run c (k (piece m c n)) Q) :
    iprop(RcvSt m c (n + 1) ∗ R) ⊢ run c
      (.op (.load cM (Rect.unit (s := S32x16x512) (k0_off6 c (BitVec.ofNat 32 n)) S1x16x512.size inb6).toLoadRect hl) k) Q :=
  take_step m c h1 h2 (by
    have e := k0_off6_eq c ⟨n - 1, by omega⟩
    simp only [show 1 + (n - 1) = n by omega] at e
    rw [e, src_closed c h1 h2]) hnext

end Cert.Routed
-- ==== Proof.Signal.lean ====
/-
The first parts of the body: a signal to every other device, the loads of the tokens, of the router and of the device's
experts, the first block of the partial product stored, and the wait for every other device's signal.
-/
module

public import proofs.«01_k».proof.Proof.Parts

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device brings to the wait for the signals, beside what it owes. -/
def BarIn (c : Dev nD) : sProp 𝕄 := iprop(cred (tallyAt (barCell c) () 31) ∗ atPos ER (barCell c) 0 ∅ 0 ∗ levAts L lv)

theorem part1 (c : Dev nD) (R : sProp 𝕄) :
    ∃ x, Spec c iprop(SigSt m c 1 ∗ R) (onBufs (k0_part1 (F := F))) iprop(SigSt m c 6 ∗ R) ⟨c, word c, barArr, x, 32#32⟩ := by
  apply Exists.intro
  intro Q hQ
  rw [onBufs, k0_part1_eq_skeleton]
  unfold k0_part1_skel
  simp only [semSignalWord, Prog.lift, Prog.bind_op, Prog.bind_ret, Prog.pure_eq_ret, wp_deviceId]
  refine signal_step m c (n := 1) (by decide) (by decide) (Fin.ext (k0_dev1_eq c)) ?_
  refine signal_step m c (n := 2) (by decide) (by decide) (Fin.ext (k0_dev2_eq c)) ?_
  refine signal_step m c (n := 3) (by decide) (by decide) (Fin.ext (k0_dev3_eq c)) ?_
  refine signal_step m c (n := 4) (by decide) (by decide) (Fin.ext (k0_dev4_eq c)) ?_
  refine signal_step m c (n := 5) (by decide) (by decide) (Fin.ext (k0_dev5_eq c)) ?_
  exact done c hQ

theorem part2 (c : Dev nD) (R : sProp 𝕄) (w x y : BitVec 32) :
    ∃ x', Spec c iprop(SigSt m c 6 ∗ R) (onBufs (k0_part2 (F := F)) c w barArr x y) iprop(SigSt m c 12 ∗ R) ⟨x', 32#32⟩ := by
  apply Exists.intro
  intro Q hQ
  rw [onBufs, k0_part2_eq_skeleton]
  unfold k0_part2_skel
  simp only [semSignalWord, Prog.lift, Prog.bind_op, Prog.bind_ret, Prog.pure_eq_ret]
  refine signal_step m c (n := 6) (by decide) (by decide) (Fin.ext (k0_dev6_eq c)) ?_
  refine signal_step m c (n := 7) (by decide) (by decide) (Fin.ext (k0_dev7_eq c)) ?_
  refine signal_step m c (n := 8) (by decide) (by decide) (Fin.ext (k0_dev8_eq c)) ?_
  refine signal_step m c (n := 9) (by decide) (by decide) (Fin.ext (k0_dev9_eq c)) ?_
  refine signal_step m c (n := 10) (by decide) (by decide) (Fin.ext (k0_dev10_eq c)) ?_
  refine signal_step m c (n := 11) (by decide) (by decide) (Fin.ext (k0_dev11_eq c)) ?_
  exact done c hQ

theorem part3 (c : Dev nD) (R : sProp 𝕄) (w x y : BitVec 32) :
    ∃ x', Spec c iprop(SigSt m c 12 ∗ R) (onBufs (k0_part3 (F := F)) c w barArr x y) iprop(SigSt m c 18 ∗ R) ⟨x', 32#32⟩ := by
  apply Exists.intro
  intro Q hQ
  rw [onBufs, k0_part3_eq_skeleton]
  unfold k0_part3_skel
  simp only [semSignalWord, Prog.lift, Prog.bind_op, Prog.bind_ret, Prog.pure_eq_ret]
  refine signal_step m c (n := 12) (by decide) (by decide) (Fin.ext (k0_dev12_eq c)) ?_
  refine signal_step m c (n := 13) (by decide) (by decide) (Fin.ext (k0_dev13_eq c)) ?_
  refine signal_step m c (n := 14) (by decide) (by decide) (Fin.ext (k0_dev14_eq c)) ?_
  refine signal_step m c (n := 15) (by decide) (by decide) (Fin.ext (k0_dev15_eq c)) ?_
  refine signal_step m c (n := 16) (by decide) (by decide) (Fin.ext (k0_dev16_eq c)) ?_
  refine signal_step m c (n := 17) (by decide) (by decide) (Fin.ext (k0_dev17_eq c)) ?_
  exact done c hQ

theorem part4 (c : Dev nD) (R : sProp 𝕄) (w x y : BitVec 32) :
    ∃ x', Spec c iprop(SigSt m c 18 ∗ R) (onBufs (k0_part4 (F := F)) c w barArr x y) iprop(SigSt m c 24 ∗ R) ⟨x', 32#32⟩ := by
  apply Exists.intro
  intro Q hQ
  rw [onBufs, k0_part4_eq_skeleton]
  unfold k0_part4_skel
  simp only [semSignalWord, Prog.lift, Prog.bind_op, Prog.bind_ret, Prog.pure_eq_ret]
  refine signal_step m c (n := 18) (by decide) (by decide) (Fin.ext (k0_dev18_eq c)) ?_
  refine signal_step m c (n := 19) (by decide) (by decide) (Fin.ext (k0_dev19_eq c)) ?_
  refine signal_step m c (n := 20) (by decide) (by decide) (Fin.ext (k0_dev20_eq c)) ?_
  refine signal_step m c (n := 21) (by decide) (by decide) (Fin.ext (k0_dev21_eq c)) ?_
  refine signal_step m c (n := 22) (by decide) (by decide) (Fin.ext (k0_dev22_eq c)) ?_
  refine signal_step m c (n := 23) (by decide) (by decide) (Fin.ext (k0_dev23_eq c)) ?_
  exact done c hQ

theorem part5 (c : Dev nD) (R : sProp 𝕄) (w x y : BitVec 32) :
    ∃ x', Spec c iprop(SigSt m c 24 ∗ R) (onBufs (k0_part5 (F := F)) c w barArr x y) iprop(SigSt m c 30 ∗ R) ⟨x', 32#32⟩ := by
  apply Exists.intro
  intro Q hQ
  rw [onBufs, k0_part5_eq_skeleton]
  unfold k0_part5_skel
  simp only [semSignalWord, Prog.lift, Prog.bind_op, Prog.bind_ret, Prog.pure_eq_ret]
  refine signal_step m c (n := 24) (by decide) (by decide) (Fin.ext (k0_dev24_eq c)) ?_
  refine signal_step m c (n := 25) (by decide) (by decide) (Fin.ext (k0_dev25_eq c)) ?_
  refine signal_step m c (n := 26) (by decide) (by decide) (Fin.ext (k0_dev26_eq c)) ?_
  refine signal_step m c (n := 27) (by decide) (by decide) (Fin.ext (k0_dev27_eq c)) ?_
  refine signal_step m c (n := 28) (by decide) (by decide) (Fin.ext (k0_dev28_eq c)) ?_
  refine signal_step m c (n := 29) (by decide) (by decide) (Fin.ext (k0_dev29_eq c)) ?_
  exact done c hQ

set_option maxHeartbeats 400000 in
theorem part6 (c : Dev nD) (R : sProp 𝕄) (x y : BitVec 32) :
    Spec c iprop(SigSt m c 30 ∗ stg c cc0_stg0_0 (x0 m c) ∗ stg c cc0_stg1_0 (x1 m c) ∗ stg c cc0_stg2_0 (x2 m c) ∗ R)
      (onBufs (k0_part6 (F := F)) c (word c) barArr x y)
      iprop(SigSt m c 32 ∗ stg c cc0_stg0_0 (x0 m c) ∗ stg c cc0_stg1_0 (x1 m c) ∗ stg c cc0_stg2_0 (x2 m c) ∗ R)
      ⟨k0_pay1 (x0 m c), k0_pay2 (x0 m c) (x1 m c), expIota, k0_pay3 (x2 m c), k0_pay4 (word c) (x0 m c) (x1 m c) (x2 m c)⟩ := by
  intro Q hQ
  rw [onBufs, k0_part6_eq_skeleton]
  unfold k0_part6_skel
  simp only [semSignalWord, Prog.lift, Prog.bind_op, Prog.bind_ret, Prog.pure_eq_ret]
  refine signal_step m c (n := 30) (by decide) (by decide) (Fin.ext (k0_dev30_eq c)) ?_
  refine signal_step m c (n := 31) (by decide) (by decide) (Fin.ext (k0_dev31_eq c)) ?_
  iintro ⟨HS, H0, H1, H2, HR⟩
  iapply (wp_load 𝒱₀ (c : Thread nD τ) none Set.univ (m := M0) (Finset.subset_univ _)) $$ H0; iintro H0
  rw [read0]
  iapply (wp_load 𝒱₀ (c : Thread nD τ) none Set.univ (m := M1) (Finset.subset_univ _)) $$ H1; iintro H1
  rw [read1]
  iapply (wp_load 𝒱₀ (c : Thread nD τ) none Set.univ (m := M2) (Finset.subset_univ _)) $$ H2; iintro H2
  rw [read2]
  iapply (done c hQ)
  isplitl [HS]; · iexact HS
  isplitl [H0]; · iexact H0
  isplitl [H1]; · iexact H1
  isplitl [H2]; · iexact H2
  iexact HR

set_option maxHeartbeats 400000 in
theorem part7 (c : Dev nD) (R : sProp 𝕄) :
    Spec c iprop(SigSt m c 32 ∗ BarIn c ∗ (∃ f, rowPts (F := F) c 0 512 f) ∗ stg c cc0_stg3_0 (x3 m c) ∗ R)
      (onBufs (k0_part7 (F := F)) c (word c) barArr (k0_pay1 (x0 m c)) (k0_pay2 (x0 m c) (x1 m c)) expIota (k0_pay3 (x2 m c))
        (k0_pay4 (word c) (x0 m c) (x1 m c) (x2 m c)))
      iprop(BarSt' m c ∗ rowPts c 0 128 (PV m c) ∗ (∃ f, rowPts (F := F) c 128 512 f) ∗ stg c cc0_stg3_0 (x3 m c) ∗ R)
      ⟨turned m c, stacked m c⟩ := by
  intro Q hQ
  rw [onBufs, k0_part7_eq_skeleton]
  unfold k0_part7_skel
  simp only [semWaitWord, Prog.lift, Prog.bind_op, Prog.bind_ret, Prog.pure_eq_ret]
  iintro ⟨HS, HB, Hrows, H3, HR⟩
  iapply (wp_load 𝒱₀ (c : Thread nD τ) none Set.univ (m := M3) (Finset.subset_univ _)) $$ H3; iintro H3
  rw [read3]
  iapply (store_step m c (q := 0) (a := 0) (by decide) (by decide) (off := ![0, 0]) rfl rfl
    (R := iprop(SigSt m c 32 ∗ BarIn c ∗ stg c cc0_stg3_0 (x3 m c) ∗ R)) ?_)
  rotate_left
  · isplitl [Hrows]
    · isplitr; · rw [rowPts_nil]; iempintro
      iexact Hrows
    isplitl [HS]; · iexact HS
    isplitl [HB]; · iexact HB
    isplitl [H3] <;> iassumption
  refine BIBase.Entails.trans ?_ (barrier_step m c (R := iprop(rowPts c 0 128 (PV m c) ∗ (∃ f, rowPts (F := F) c 128 512 f) ∗ stg c cc0_stg3_0 (x3 m c) ∗ R))
    (done c hQ))
  unfold SigSt BarIn BarSt
  rw [owB_end, add_zero]
  iintro ⟨⟨Hrow, Hrest⟩, ⟨HK, -, HO⟩, ⟨Hc, Hat, Hlev⟩, H3, HR⟩
  isplitl [HK Hc Hat Hlev HO]
  · isplitl [HK]; · iexact HK
    isplitl [Hc]; · iexact Hc
    isplitl [Hat]; · iexact Hat
    isplitl [Hlev] <;> iassumption
  isplitl [Hrow]; · iexact Hrow
  isplitl [Hrest]; · iexact Hrest
  isplitl [H3] <;> iassumption

end Cert.Routed
-- ==== Proof.Send.lean ====
/-
The parts of the body that send: a piece of sixteen rows to each device in turn, the next block of 128 rows stored whenever
the rows computed so far have all been sent; then the first of the pieces that come.
-/
module

public import proofs.«01_k».proof.Proof.Parts

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the landing of the pieces needs from the device: the tokens of both ends of every transfer. -/
def SndToks (c : Dev nD) : sProp 𝕄 :=
  bigSep (Finset.Ico 1 32) fun s => iprop(dutyTok ER (sndCell c s) 0 0 ∗ dutyTok ER (rcvCell (dst c s) c.val) 0 0)

/-- After the wait for the signals, with the first block stored: ready to send, the device's own rows set aside. -/
theorem ready (c : Dev nD) : iprop(BarSt' m c ∗ SndToks c ∗ rowPts c 0 128 (PV m c))
    ⊢ iprop(SndSt m c 1 8 ∗ rowPts c 0 16 (PV m c) ∗ atPos ER (barCell c) 1 ∅ 0) := by
  unfold BarSt' SndToks SndSt
  iintro ⟨⟨HK, Hat, HO, Hslots⟩, Htok, Hrows⟩
  ihave Hrows := (rowPts_cut c (show 0 ≤ 16 by decide) (show 16 ≤ 128 by decide) (PV m c)).1 $$ Hrows
  icases Hrows with ⟨Hown, Hrows⟩
  isplitr [Hown Hat]
  · isplitl [HK]; · iexact HK
    isplitl [Hrows]; · iexact Hrows
    isplitl [Hslots Htok]
    · iapply (Entails.of_eq (bigSep_sep' _ _ _).symm)
      isplitl [Hslots] <;> iassumption
    isplitr; · rw [Finset.Ico_self, bigSep_empty]; iempintro
    iexact HO
  isplitl [Hown] <;> iassumption

/-- A block of rows stored, to be sent after those that remain. -/
theorem store_more (c : Dev nD) {n q : ℕ} (hn : n ≤ 8 * q) (hq : q < 4) {off : Fin 2 → ℕ} {inb} (hoff : off = ![128 * q, 0])
    {w : Vec F S128x512 .bf16} (hw : w = chunk m c q) {hl hx hm} {α : Type} {Q : α → sProp 𝕄}
    {k : PUnit → Prog (TpuEff nD τ sig (Elt F) Λ₀ .tc) α} {R : sProp 𝕄}
    (hnext : iprop(SndSt m c n (8 * (q + 1)) ∗ (∃ f, rowPts (F := F) c (128 * (q + 1)) 512 f) ∗ R) ⊢ run c (k ⟨⟩) Q) :
    iprop(SndSt m c n (8 * q) ∗ (∃ f, rowPts (F := F) c (128 * q) 512 f) ∗ R) ⊢ run c
      (.op (.load pM (Rect.unit (s := S512x512) off S128x512.size inb).toLoadRect hl) fun _ =>
        .op (.store pM (Rect.unit (s := S512x512) off S128x512.size inb) w Finset.univ hx hm) k) Q := by
  have e1 : 16 * (8 * q) = 128 * q := by omega
  have e2 : 16 * (8 * (q + 1)) = 128 * q + 128 := by omega
  have e3 : 128 * (q + 1) = 128 * q + 128 := by omega
  unfold SndSt at hnext ⊢
  rw [e1]
  rw [e2, e3] at hnext
  iintro ⟨⟨HK, Hrows, Htok, Hcr, HO⟩, Hrest, HR⟩
  iapply (store_step m c (q := q) (a := 16 * n) (by omega) hq hoff hw
    (R := iprop(Recs m ∗ bigSep (Finset.Ico n 32) (fun s => iprop((∃ f, slotPts (F := F) (dst c s) c.val f)
        ∗ dutyTok ER (sndCell c s) 0 0 ∗ dutyTok ER (rcvCell (dst c s) c.val) 0 0))
      ∗ bigSep (Finset.Ico 1 n) (fun s => cred (tallyAt (sndCell c s) () N)) ∗ ow c (owR c n) ∗ R)) ?_)
  rotate_left
  · isplitl [Hrows Hrest]
    · isplitl [Hrows] <;> iassumption
    isplitl [HK]; · iexact HK
    isplitl [Htok]; · iexact Htok
    isplitl [Hcr]; · iexact Hcr
    isplitl [HO] <;> iassumption
  refine BIBase.Entails.trans ?_ hnext
  iintro ⟨⟨Hrows, Hrest⟩, HK, Htok, Hcr, HO, HR⟩
  isplitr [Hrest HR]
  · isplitl [HK]; · iexact HK
    isplitl [Hrows]; · iexact Hrows
    isplitl [Htok]; · iexact Htok
    isplitl [Hcr] <;> iassumption
  isplitl [Hrest] <;> iassumption

theorem part8 (c : Dev nD) (R : sProp 𝕄) (w : BitVec 32) :
    Spec c iprop(SndSt m c 1 8 ∗ R) (onBufs (k0_part8 (F := F)) c w) iprop(SndSt m c 4 8 ∗ R) ⟨⟩ := by
  intro Q hQ
  rw [onBufs, k0_part8_eq_skeleton]
  unfold k0_part8_skel
  simp only [Prog.lift, Prog.bind_op, Prog.bind_ret, Prog.pure_eq_ret]
  refine send m c (n := 1) (by decide) (by decide) (by decide) (k0_dev32_eq c) rfl rfl ?_
  refine send m c (n := 2) (by decide) (by decide) (by decide) (k0_dev33_eq c) rfl rfl ?_
  refine send m c (n := 3) (by decide) (by decide) (by decide) (k0_dev34_eq c) rfl rfl ?_
  exact done c hQ

theorem part9 (c : Dev nD) (R : sProp 𝕄) (w : BitVec 32) :
    Spec c iprop(SndSt m c 4 8 ∗ R) (onBufs (k0_part9 (F := F)) c w) iprop(SndSt m c 7 8 ∗ R) ⟨⟩ := by
  intro Q hQ
  rw [onBufs, k0_part9_eq_skeleton]
  unfold k0_part9_skel
  simp only [Prog.lift, Prog.bind_op, Prog.bind_ret, Prog.pure_eq_ret]
  refine send m c (n := 4) (by decide) (by decide) (by decide) (k0_dev35_eq c) rfl rfl ?_
  refine send m c (n := 5) (by decide) (by decide) (by decide) (k0_dev36_eq c) rfl rfl ?_
  refine send m c (n := 6) (by decide) (by decide) (by decide) (k0_dev37_eq c) rfl rfl ?_
  exact done c hQ

theorem part10 (c : Dev nD) (R : sProp 𝕄) (w : BitVec 32) :
    Spec c iprop(SndSt m c 7 8 ∗ (∃ f, rowPts (F := F) c 128 512 f) ∗ R) (onBufs (k0_part10 (F := F)) c w (turned m c) (stacked m c)) iprop(SndSt m c 9 16 ∗ (∃ f, rowPts (F := F) c 256 512 f) ∗ R) ⟨⟩ := by
  intro Q hQ
  rw [onBufs, k0_part10_eq_skeleton]
  unfold k0_part10_skel
  simp only [Prog.lift, Prog.bind_op, Prog.bind_ret, Prog.pure_eq_ret]
  refine send m c (n := 7) (by decide) (by decide) (by decide) (k0_dev38_eq c) rfl rfl ?_
  refine store_more m c (q := 1) (by decide) (by decide) rfl rfl ?_
  refine send m c (n := 8) (by decide) (by decide) (by decide) (k0_dev39_eq c) rfl rfl ?_
  exact done c hQ

theorem part11 (c : Dev nD) (R : sProp 𝕄) (w : BitVec 32) :
    Spec c iprop(SndSt m c 9 16 ∗ R) (onBufs (k0_part11 (F := F)) c w) iprop(SndSt m c 12 16 ∗ R) ⟨⟩ := by
  intro Q hQ
  rw [onBufs, k0_part11_eq_skeleton]
  unfold k0_part11_skel
  simp only [Prog.lift, Prog.bind_op, Prog.bind_ret, Prog.pure_eq_ret]
  refine send m c (n := 9) (by decide) (by decide) (by decide) (k0_dev40_eq c) rfl rfl ?_
  refine send m c (n := 10) (by decide) (by decide) (by decide) (k0_dev41_eq c) rfl rfl ?_
  refine send m c (n := 11) (by decide) (by decide) (by decide) (k0_dev42_eq c) rfl rfl ?_
  exact done c hQ

theorem part12 (c : Dev nD) (R : sProp 𝕄) (w : BitVec 32) :
    Spec c iprop(SndSt m c 12 16 ∗ R) (onBufs (k0_part12 (F := F)) c w) iprop(SndSt m c 15 16 ∗ R) ⟨⟩ := by
  intro Q hQ
  rw [onBufs, k0_part12_eq_skeleton]
  unfold k0_part12_skel
  simp only [Prog.lift, Prog.bind_op, Prog.bind_ret, Prog.pure_eq_ret]
  refine send m c (n := 12) (by decide) (by decide) (by decide) (k0_dev43_eq c) rfl rfl ?_
  refine send m c (n := 13) (by decide) (by decide) (by decide) (k0_dev44_eq c) rfl rfl ?_
  refine send m c (n := 14) (by decide) (by decide) (by decide) (k0_dev45_eq c) rfl rfl ?_
  exact done c hQ

theorem part13 (c : Dev nD) (R : sProp 𝕄) (w : BitVec 32) :
    Spec c iprop(SndSt m c 15 16 ∗ (∃ f, rowPts (F := F) c 256 512 f) ∗ R) (onBufs (k0_part13 (F := F)) c w (turned m c) (stacked m c)) iprop(SndSt m c 18 24 ∗ (∃ f, rowPts (F := F) c 384 512 f) ∗ R) ⟨⟩ := by
  intro Q hQ
  rw [onBufs, k0_part13_eq_skeleton]
  unfold k0_part13_skel
  simp only [Prog.lift, Prog.bind_op, Prog.bind_ret, Prog.pure_eq_ret]
  refine send m c (n := 15) (by decide) (by decide) (by decide) (k0_dev46_eq c) rfl rfl ?_
  refine store_more m c (q := 2) (by decide) (by decide) rfl rfl ?_
  refine send m c (n := 16) (by decide) (by decide) (by decide) (k0_dev47_eq c) rfl rfl ?_
  refine send m c (n := 17) (by decide) (by decide) (by decide) (k0_dev48_eq c) rfl rfl ?_
  exact done c hQ

theorem part14 (c : Dev nD) (R : sProp 𝕄) (w : BitVec 32) :
    Spec c iprop(SndSt m c 18 24 ∗ R) (onBufs (k0_part14 (F := F)) c w) iprop(SndSt m c 20 24 ∗ R) ⟨⟩ := by
  intro Q hQ
  rw [onBufs, k0_part14_eq_skeleton]
  unfold k0_part14_skel
  simp only [Prog.lift, Prog.bind_op, Prog.bind_ret, Prog.pure_eq_ret]
  refine send m c (n := 18) (by decide) (by decide) (by decide) (k0_dev49_eq c) rfl rfl ?_
  refine send m c (n := 19) (by decide) (by decide) (by decide) (k0_dev50_eq c) rfl rfl ?_
  exact done c hQ

theorem part15 (c : Dev nD) (R : sProp 𝕄) (w : BitVec 32) :
    Spec c iprop(SndSt m c 20 24 ∗ R) (onBufs (k0_part15 (F := F)) c w) iprop(SndSt m c 23 24 ∗ R) ⟨⟩ := by
  intro Q hQ
  rw [onBufs, k0_part15_eq_skeleton]
  unfold k0_part15_skel
  simp only [Prog.lift, Prog.bind_op, Prog.bind_ret, Prog.pure_eq_ret]
  refine send m c (n := 20) (by decide) (by decide) (by decide) (k0_dev51_eq c) rfl rfl ?_
  refine send m c (n := 21) (by decide) (by decide) (by decide) (k0_dev52_eq c) rfl rfl ?_
  refine send m c (n := 22) (by decide) (by decide) (by decide) (k0_dev53_eq c) rfl rfl ?_
  exact done c hQ

theorem part16 (c : Dev nD) (R : sProp 𝕄) (w : BitVec 32) :
    ∃ x, Spec c iprop(SndSt m c 23 24 ∗ (∃ f, rowPts (F := F) c 384 512 f) ∗ R) (onBufs (k0_part16 (F := F)) c w (turned m c) (stacked m c)) iprop(SndSt m c 26 32 ∗ (∃ f, rowPts (F := F) c 512 512 f) ∗ R) x := by
  apply Exists.intro
  intro Q hQ
  rw [onBufs, k0_part16_eq_skeleton]
  unfold k0_part16_skel
  simp only [Prog.lift, Prog.bind_op, Prog.bind_ret, Prog.pure_eq_ret]
  refine send m c (n := 23) (by decide) (by decide) (by decide) (k0_dev54_eq c) rfl rfl ?_
  refine store_more m c (q := 3) (by decide) (by decide) rfl rfl ?_
  refine send m c (n := 24) (by decide) (by decide) (by decide) (k0_dev55_eq c) rfl rfl ?_
  refine send m c (n := 25) (by decide) (by decide) (by decide) (k0_dev56_eq c) rfl rfl ?_
  exact done c hQ

theorem part17 (c : Dev nD) (R : sProp 𝕄) (w x : BitVec 32) :
    Spec c iprop(SndSt m c 26 32 ∗ R) (onBufs (k0_part17 (F := F)) c w x) iprop(SndSt m c 28 32 ∗ R) ⟨⟩ := by
  intro Q hQ
  rw [onBufs, k0_part17_eq_skeleton]
  unfold k0_part17_skel
  simp only [Prog.lift, Prog.bind_op, Prog.bind_ret, Prog.pure_eq_ret]
  refine send m c (n := 26) (by decide) (by decide) (by decide) (k0_dev57_eq c) rfl rfl ?_
  refine send m c (n := 27) (by decide) (by decide) (by decide) (k0_dev58_eq c) rfl rfl ?_
  exact done c hQ

theorem part18 (c : Dev nD) (R : sProp 𝕄) (w : BitVec 32) :
    Spec c iprop(SndSt m c 28 32 ∗ R) (onBufs (k0_part18 (F := F)) c w) iprop(SndSt m c 31 32 ∗ R) ⟨⟩ := by
  intro Q hQ
  rw [onBufs, k0_part18_eq_skeleton]
  unfold k0_part18_skel
  simp only [Prog.lift, Prog.bind_op, Prog.bind_ret, Prog.pure_eq_ret]
  refine send m c (n := 28) (by decide) (by decide) (by decide) (k0_dev59_eq c) rfl rfl ?_
  refine send m c (n := 29) (by decide) (by decide) (by decide) (k0_dev60_eq c) rfl rfl ?_
  refine send m c (n := 30) (by decide) (by decide) (by decide) (k0_dev61_eq c) rfl rfl ?_
  exact done c hQ

end Cert.Routed
-- ==== Proof.Recv.lean ====
/-
The parts of the body that receive. The device's own share of the result is its rows of the shared expert's product and
of its own partial product; each piece that comes is added to it.
-/
module

public import proofs.«01_k».proof.Proof.Send

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's own rows of the tokens. -/
def ownX (c : Dev nD) : Vec F S16x256 .f32 :=
  M0.view.readAt (Elt F) (Rect.unit (s := S512x256) (k0_off3 c) S16x256.size (k0_off3_inb c)).toLoadRect (x0 m c)
/-- The device's own rows of its partial product. -/
def mine (c : Dev nD) : Vec F S16x512 .bf16 :=
  pM.view.readAt (Elt F) (Rect.unit (s := S512x512) ![0, 0] S16x512.size inb_S512x512_S16x512_0_0).toLoadRect (PV m c)

/-! The running sums: `accN` has taken in the pieces of the `N` nearest devices. -/

def acc1 (c : Dev nD) : FVec F S16x512 .f32 := k0_pay11 (ownX m c) (x4 m c) (mine m c) (piece m c 1)
def acc3 (c : Dev nD) : FVec F S16x512 .f32 := k0_pay12 (acc1 m c) (piece m c 2) (piece m c 3)
def acc5 (c : Dev nD) : FVec F S16x512 .f32 := k0_pay13 (acc3 m c) (piece m c 4) (piece m c 5)
def acc7 (c : Dev nD) : FVec F S16x512 .f32 := k0_pay14 (acc5 m c) (piece m c 6) (piece m c 7)
def acc9 (c : Dev nD) : FVec F S16x512 .f32 := k0_pay15 (acc7 m c) (piece m c 8) (piece m c 9)
def acc12 (c : Dev nD) : FVec F S16x512 .f32 := k0_pay17 (acc9 m c) (k0_pay16 (piece m c 10)) (piece m c 11) (piece m c 12)
def acc14 (c : Dev nD) : FVec F S16x512 .f32 := k0_pay18 (acc12 m c) (piece m c 13) (piece m c 14)
def acc16 (c : Dev nD) : FVec F S16x512 .f32 := k0_pay19 (acc14 m c) (piece m c 15) (piece m c 16)
def acc18 (c : Dev nD) : FVec F S16x512 .f32 := k0_pay20 (acc16 m c) (piece m c 17) (piece m c 18)
def acc20 (c : Dev nD) : FVec F S16x512 .f32 := k0_pay21 (acc18 m c) (piece m c 19) (piece m c 20)
def acc22 (c : Dev nD) : FVec F S16x512 .f32 := k0_pay22 (acc20 m c) (piece m c 21) (piece m c 22)
def acc24 (c : Dev nD) : FVec F S16x512 .f32 := k0_pay23 (acc22 m c) (piece m c 23) (piece m c 24)
def acc27 (c : Dev nD) : FVec F S16x512 .f32 := k0_pay25 (acc24 m c) (k0_pay24 (piece m c 25)) (piece m c 26) (piece m c 27)
def acc29 (c : Dev nD) : FVec F S16x512 .f32 := k0_pay26 (acc27 m c) (piece m c 28) (piece m c 29)
/-- What the device stores as its block of the result. -/
def outAt (c : Dev nD) : FVec F S16x512 .f32 := k0_pay27 (acc29 m c) (piece m c 30) (piece m c 31)

/-- The credit and the place in the round of every piece to come. -/
def RcvIn (c : Dev nD) : sProp 𝕄 :=
  bigSep (Finset.Ico 1 32) fun k => iprop(cred (tallyAt (rcvCell c (src c k)) () N) ∗ atPos ER (rcvCell c (src c k)) 0 ∅ 0)
/-- The credit of every departure. -/
def Sent (c : Dev nD) : sProp 𝕄 := bigSep (Finset.Ico 1 32) fun s => cred (tallyAt (sndCell c s) () N)

omit [FloatOps F] in
theorem rows_set {inb} : (pM.access (Rect.unit (s := S512x512) ![0, 0] S16x512.size inb)).set = rowS 0 16 :=
  (View.set_slice_whole _ _).trans (rect_rows 0 16 S16x512.size rfl inb)

theorem part19 (c : Dev nD) (R : sProp 𝕄) (w : BitVec 32) :
    ∃ x, Spec c iprop(SndSt m c 31 32 ∗ rowPts c 0 16 (PV m c) ∗ stg c cc0_stg0_0 (x0 m c) ∗ stg c cc0_stg4_0 (x4 m c) ∗ RcvIn c ∗ R)
      (onBufs (k0_part19 (F := F)) c w)
      iprop(RcvSt m c 2 ∗ rowPts c 0 16 (PV m c) ∗ stg c cc0_stg0_0 (x0 m c) ∗ stg c cc0_stg4_0 (x4 m c) ∗ Sent c ∗ R) ⟨acc1 m c, x⟩ := by
  apply Exists.intro
  intro Q hQ
  rw [onBufs, k0_part19_eq_skeleton]
  unfold k0_part19_skel
  simp only [Prog.lift, Prog.bind_op, Prog.bind_ret, Prog.pure_eq_ret]
  refine send m c (n := 31) (by decide) (by decide) (by decide) (k0_dev62_eq c) rfl rfl ?_
  unfold rowPts
  iintro ⟨HS, Hown, H0, H4, Hin, HR⟩
  iapply (wp_load 𝒱₀ (c : Thread nD τ) none Set.univ (m := M0) (Finset.subset_univ _)) $$ H0; iintro H0
  iapply (wp_load 𝒱₀ (c : Thread nD τ) none Set.univ (m := M4) (Finset.subset_univ _)) $$ H4; iintro H4
  rw [read4]
  iapply (wp_load_rect 𝒱₀ (c : Thread nD τ) none Set.univ (m := pM) (r := Rect.unit (s := S512x512) ![0, 0] S16x512.size inb_S512x512_S16x512_0_0)
    (S := rowS 0 16) (le_of_eq rows_set)) $$ Hown
  iintro Hown
  iapply (recv m c (n := 1) (by decide) (by decide) (take m c (by decide) (by decide) (done c hQ)))
  unfold SndSt RcvSt RcvIn Sent rowPts
  rw [Finset.Ico_self, bigSep_empty, owR_end]
  icases HS with ⟨HK, -, -, Hcr, HO⟩
  isplitl [HK Hin HO]
  · isplitl [HK]; · iexact HK
    isplitl [Hin]; · iexact Hin
    isplitr; · iempintro
    iexact HO
  isplitl [Hown]; · iexact Hown
  isplitl [H0]; · iexact H0
  isplitl [H4]; · iexact H4
  isplitl [Hcr] <;> iassumption

theorem part20 (c : Dev nD) (R : sProp 𝕄) (w x : BitVec 32) :
    ∃ y, Spec c iprop(RcvSt m c 2 ∗ R) (onBufs (k0_part20 (F := F)) c w (acc1 m c) x) iprop(RcvSt m c 4 ∗ R) ⟨acc3 m c, y⟩ := by
  apply Exists.intro; intro Q hQ
  rw [onBufs, k0_part20_eq_skeleton]
  unfold k0_part20_skel
  simp only [Prog.lift, Prog.bind_op, Prog.bind_ret, Prog.pure_eq_ret]
  exact recv m c (n := 2) (by decide) (by decide) <|
    take m c (n := 2) (by decide) (by decide) <|
    recv m c (n := 3) (by decide) (by decide) <|
    take m c (n := 3) (by decide) (by decide) <|
    done c hQ

theorem part21 (c : Dev nD) (R : sProp 𝕄) (w x : BitVec 32) :
    ∃ y, Spec c iprop(RcvSt m c 4 ∗ R) (onBufs (k0_part21 (F := F)) c w (acc3 m c) x) iprop(RcvSt m c 6 ∗ R) ⟨acc5 m c, y⟩ := by
  apply Exists.intro; intro Q hQ
  rw [onBufs, k0_part21_eq_skeleton]
  unfold k0_part21_skel
  simp only [Prog.lift, Prog.bind_op, Prog.bind_ret, Prog.pure_eq_ret]
  exact recv m c (n := 4) (by decide) (by decide) <|
    take m c (n := 4) (by decide) (by decide) <|
    recv m c (n := 5) (by decide) (by decide) <|
    take m c (n := 5) (by decide) (by decide) <|
    done c hQ

theorem part22 (c : Dev nD) (R : sProp 𝕄) (w x : BitVec 32) :
    Spec c iprop(RcvSt m c 6 ∗ R) (onBufs (k0_part22 (F := F)) c w (acc5 m c) x) iprop(RcvSt m c 9 ∗ R) (acc7 m c) := by
  intro Q hQ
  rw [onBufs, k0_part22_eq_skeleton]
  unfold k0_part22_skel
  simp only [Prog.lift, Prog.bind_op, Prog.bind_ret, Prog.pure_eq_ret]
  exact recv m c (n := 6) (by decide) (by decide) <|
    take m c (n := 6) (by decide) (by decide) <|
    recv m c (n := 7) (by decide) (by decide) <|
    take m c (n := 7) (by decide) (by decide) <|
    recv m c (n := 8) (by decide) (by decide) <|
    done c hQ

theorem part23 (c : Dev nD) (R : sProp 𝕄) (w : BitVec 32) :
    Spec c iprop(RcvSt m c 9 ∗ R) (onBufs (k0_part23 (F := F)) c w (acc7 m c)) iprop(RcvSt m c 11 ∗ R) ⟨acc9 m c, k0_pay16 (piece m c 10)⟩ := by
  intro Q hQ
  rw [onBufs, k0_part23_eq_skeleton]
  unfold k0_part23_skel
  simp only [Prog.lift, Prog.bind_op, Prog.bind_ret, Prog.pure_eq_ret]
  exact take m c (n := 8) (by decide) (by decide) <|
    recv m c (n := 9) (by decide) (by decide) <|
    take m c (n := 9) (by decide) (by decide) <|
    recv m c (n := 10) (by decide) (by decide) <|
    take m c (n := 10) (by decide) (by decide) <|
    done c hQ

theorem part24 (c : Dev nD) (R : sProp 𝕄) (w : BitVec 32) :
    ∃ y, Spec c iprop(RcvSt m c 11 ∗ R) (onBufs (k0_part24 (F := F)) c w (acc9 m c) (k0_pay16 (piece m c 10))) iprop(RcvSt m c 13 ∗ R) ⟨acc12 m c, y, 32#32⟩ := by
  apply Exists.intro; intro Q hQ
  rw [onBufs, k0_part24_eq_skeleton]
  unfold k0_part24_skel
  simp only [Prog.lift, Prog.bind_op, Prog.bind_ret, Prog.pure_eq_ret]
  exact recv m c (n := 11) (by decide) (by decide) <|
    take m c (n := 11) (by decide) (by decide) <|
    recv m c (n := 12) (by decide) (by decide) <|
    take m c (n := 12) (by decide) (by decide) <|
    done c hQ

theorem part25 (c : Dev nD) (R : sProp 𝕄) (w x x' : BitVec 32) :
    ∃ y, Spec c iprop(RcvSt m c 13 ∗ R) (onBufs (k0_part25 (F := F)) c w (acc12 m c) x x') iprop(RcvSt m c 15 ∗ R) ⟨acc14 m c, y⟩ := by
  apply Exists.intro; intro Q hQ
  rw [onBufs, k0_part25_eq_skeleton]
  unfold k0_part25_skel
  simp only [Prog.lift, Prog.bind_op, Prog.bind_ret, Prog.pure_eq_ret]
  exact recv m c (n := 13) (by decide) (by decide) <|
    take m c (n := 13) (by decide) (by decide) <|
    recv m c (n := 14) (by decide) (by decide) <|
    take m c (n := 14) (by decide) (by decide) <|
    done c hQ

theorem part26 (c : Dev nD) (R : sProp 𝕄) (w x : BitVec 32) :
    ∃ y, Spec c iprop(RcvSt m c 15 ∗ R) (onBufs (k0_part26 (F := F)) c w (acc14 m c) x) iprop(RcvSt m c 17 ∗ R) ⟨acc16 m c, y⟩ := by
  apply Exists.intro; intro Q hQ
  rw [onBufs, k0_part26_eq_skeleton]
  unfold k0_part26_skel
  simp only [Prog.lift, Prog.bind_op, Prog.bind_ret, Prog.pure_eq_ret]
  exact recv m c (n := 15) (by decide) (by decide) <|
    take m c (n := 15) (by decide) (by decide) <|
    recv m c (n := 16) (by decide) (by decide) <|
    take m c (n := 16) (by decide) (by decide) <|
    done c hQ

theorem part27 (c : Dev nD) (R : sProp 𝕄) (w x : BitVec 32) :
    ∃ y, Spec c iprop(RcvSt m c 17 ∗ R) (onBufs (k0_part27 (F := F)) c w (acc16 m c) x) iprop(RcvSt m c 19 ∗ R) ⟨acc18 m c, y⟩ := by
  apply Exists.intro; intro Q hQ
  rw [onBufs, k0_part27_eq_skeleton]
  unfold k0_part27_skel
  simp only [Prog.lift, Prog.bind_op, Prog.bind_ret, Prog.pure_eq_ret]
  exact recv m c (n := 17) (by decide) (by decide) <|
    take m c (n := 17) (by decide) (by decide) <|
    recv m c (n := 18) (by decide) (by decide) <|
    take m c (n := 18) (by decide) (by decide) <|
    done c hQ

theorem part28 (c : Dev nD) (R : sProp 𝕄) (w x : BitVec 32) :
    ∃ y, Spec c iprop(RcvSt m c 19 ∗ R) (onBufs (k0_part28 (F := F)) c w (acc18 m c) x) iprop(RcvSt m c 21 ∗ R) ⟨acc20 m c, y⟩ := by
  apply Exists.intro; intro Q hQ
  rw [onBufs, k0_part28_eq_skeleton]
  unfold k0_part28_skel
  simp only [Prog.lift, Prog.bind_op, Prog.bind_ret, Prog.pure_eq_ret]
  exact recv m c (n := 19) (by decide) (by decide) <|
    take m c (n := 19) (by decide) (by decide) <|
    recv m c (n := 20) (by decide) (by decide) <|
    take m c (n := 20) (by decide) (by decide) <|
    done c hQ

theorem part29 (c : Dev nD) (R : sProp 𝕄) (w x : BitVec 32) :
    Spec c iprop(RcvSt m c 21 ∗ R) (onBufs (k0_part29 (F := F)) c w (acc20 m c) x) iprop(RcvSt m c 24 ∗ R) (acc22 m c) := by
  intro Q hQ
  rw [onBufs, k0_part29_eq_skeleton]
  unfold k0_part29_skel
  simp only [Prog.lift, Prog.bind_op, Prog.bind_ret, Prog.pure_eq_ret]
  exact recv m c (n := 21) (by decide) (by decide) <|
    take m c (n := 21) (by decide) (by decide) <|
    recv m c (n := 22) (by decide) (by decide) <|
    take m c (n := 22) (by decide) (by decide) <|
    recv m c (n := 23) (by decide) (by decide) <|
    done c hQ

theorem part30 (c : Dev nD) (R : sProp 𝕄) (w : BitVec 32) :
    Spec c iprop(RcvSt m c 24 ∗ R) (onBufs (k0_part30 (F := F)) c w (acc22 m c)) iprop(RcvSt m c 26 ∗ R) ⟨acc24 m c, k0_pay24 (piece m c 25)⟩ := by
  intro Q hQ
  rw [onBufs, k0_part30_eq_skeleton]
  unfold k0_part30_skel
  simp only [Prog.lift, Prog.bind_op, Prog.bind_ret, Prog.pure_eq_ret]
  exact take m c (n := 23) (by decide) (by decide) <|
    recv m c (n := 24) (by decide) (by decide) <|
    take m c (n := 24) (by decide) (by decide) <|
    recv m c (n := 25) (by decide) (by decide) <|
    take m c (n := 25) (by decide) (by decide) <|
    done c hQ

theorem part31 (c : Dev nD) (R : sProp 𝕄) (w : BitVec 32) :
    ∃ y, Spec c iprop(RcvSt m c 26 ∗ R) (onBufs (k0_part31 (F := F)) c w (acc24 m c) (k0_pay24 (piece m c 25))) iprop(RcvSt m c 28 ∗ R) ⟨acc27 m c, y, 32#32⟩ := by
  apply Exists.intro; intro Q hQ
  rw [onBufs, k0_part31_eq_skeleton]
  unfold k0_part31_skel
  simp only [Prog.lift, Prog.bind_op, Prog.bind_ret, Prog.pure_eq_ret]
  exact recv m c (n := 26) (by decide) (by decide) <|
    take m c (n := 26) (by decide) (by decide) <|
    recv m c (n := 27) (by decide) (by decide) <|
    take m c (n := 27) (by decide) (by decide) <|
    done c hQ

theorem part32 (c : Dev nD) (R : sProp 𝕄) (w x x' : BitVec 32) :
    ∃ y, Spec c iprop(RcvSt m c 28 ∗ R) (onBufs (k0_part32 (F := F)) c w (acc27 m c) x x') iprop(RcvSt m c 30 ∗ R) ⟨acc29 m c, y⟩ := by
  apply Exists.intro; intro Q hQ
  rw [onBufs, k0_part32_eq_skeleton]
  unfold k0_part32_skel
  simp only [Prog.lift, Prog.bind_op, Prog.bind_ret, Prog.pure_eq_ret]
  exact recv m c (n := 28) (by decide) (by decide) <|
    take m c (n := 28) (by decide) (by decide) <|
    recv m c (n := 29) (by decide) (by decide) <|
    take m c (n := 29) (by decide) (by decide) <|
    done c hQ

theorem part33 (c : Dev nD) (R : sProp 𝕄) (w x : BitVec 32) :
    Spec c iprop(RcvSt m c 30 ∗ (∃ X, stg (F := F) c cc0_stg5_0 X) ∗ R) (onBufs (k0_part33 (F := F)) c w (acc29 m c) x)
      iprop(RcvSt m c 32 ∗ stg c cc0_stg5_0 (outAt m c) ∗ R) ⟨⟩ := by
  intro Q hQ
  rw [onBufs, k0_part33_eq_skeleton]
  unfold k0_part33_skel
  simp only [Prog.lift, Prog.bind_op, Prog.bind_ret, Prog.pure_eq_ret]
  refine recv m c (n := 30) (by decide) (by decide) <| take m c (n := 30) (by decide) (by decide) <|
    recv m c (n := 31) (by decide) (by decide) <| take m c (n := 31) (by decide) (by decide) ?_
  iintro ⟨HS, ⟨%X, Hout⟩, HR⟩
  iapply (wp_load 𝒱₀ (c : Thread nD τ) none Set.univ (m := M5) (Finset.subset_univ _)) $$ Hout; iintro Hout
  iapply (wp_store 𝒱₀ (c : Thread nD τ) none Set.univ (m := M5) (r := Rect.unit (s := S16x512) ![0, 0] S16x512.size inb_S16x512_S16x512_0_0)
    (Mk := Finset.univ) (Finset.subset_univ _)) $$ Hout
  iintro Hout
  rw [write5]
  iapply (done c hQ)
  isplitl [HS]; · iexact HS
  isplitl [Hout]; · iexact Hout
  iexact HR

end Cert.Routed
-- ==== Proof.Depart.lean ====
/-
The last parts of the body: the waits for the departures of the pieces a device sent.
-/
module

public import proofs.«01_k».proof.Proof.Parts

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem part34 (c : Dev nD) (R : sProp 𝕄) :
    Spec c iprop(DepSt m c 1 ∗ R) (onBufs (k0_part34 (F := F)) c) iprop(DepSt m c 6 ∗ R) ⟨⟩ := by
  intro Q hQ
  rw [onBufs, k0_part34_eq_skeleton]
  unfold k0_part34_skel
  simp only [Prog.lift, Prog.bind_op, Prog.bind_ret, Prog.pure_eq_ret]
  exact depart m c (n := 1) (by decide) (by decide) rfl <| depart m c (n := 2) (by decide) (by decide) rfl <|
    depart m c (n := 3) (by decide) (by decide) rfl <| depart m c (n := 4) (by decide) (by decide) rfl <|
    depart m c (n := 5) (by decide) (by decide) rfl <| done c hQ

theorem part35 (c : Dev nD) (R : sProp 𝕄) :
    Spec c iprop(DepSt m c 6 ∗ R) (onBufs (k0_part35 (F := F)) c) iprop(DepSt m c 11 ∗ R) ⟨⟩ := by
  intro Q hQ
  rw [onBufs, k0_part35_eq_skeleton]
  unfold k0_part35_skel
  simp only [Prog.lift, Prog.bind_op, Prog.bind_ret, Prog.pure_eq_ret]
  exact depart m c (n := 6) (by decide) (by decide) rfl <| depart m c (n := 7) (by decide) (by decide) rfl <|
    depart m c (n := 8) (by decide) (by decide) rfl <| depart m c (n := 9) (by decide) (by decide) rfl <|
    depart m c (n := 10) (by decide) (by decide) rfl <| done c hQ

theorem part36 (c : Dev nD) (R : sProp 𝕄) :
    Spec c iprop(DepSt m c 11 ∗ R) (onBufs (k0_part36 (F := F)) c) iprop(DepSt m c 16 ∗ R) ⟨⟩ := by
  intro Q hQ
  rw [onBufs, k0_part36_eq_skeleton]
  unfold k0_part36_skel
  simp only [Prog.lift, Prog.bind_op, Prog.bind_ret, Prog.pure_eq_ret]
  exact depart m c (n := 11) (by decide) (by decide) rfl <| depart m c (n := 12) (by decide) (by decide) rfl <|
    depart m c (n := 13) (by decide) (by decide) rfl <| depart m c (n := 14) (by decide) (by decide) rfl <|
    depart m c (n := 15) (by decide) (by decide) rfl <| done c hQ

theorem part37 (c : Dev nD) (R : sProp 𝕄) :
    Spec c iprop(DepSt m c 16 ∗ R) (onBufs (k0_part37 (F := F)) c) iprop(DepSt m c 21 ∗ R) ⟨⟩ := by
  intro Q hQ
  rw [onBufs, k0_part37_eq_skeleton]
  unfold k0_part37_skel
  simp only [Prog.lift, Prog.bind_op, Prog.bind_ret, Prog.pure_eq_ret]
  exact depart m c (n := 16) (by decide) (by decide) rfl <| depart m c (n := 17) (by decide) (by decide) rfl <|
    depart m c (n := 18) (by decide) (by decide) rfl <| depart m c (n := 19) (by decide) (by decide) rfl <|
    depart m c (n := 20) (by decide) (by decide) rfl <| done c hQ

theorem part38 (c : Dev nD) (R : sProp 𝕄) :
    Spec c iprop(DepSt m c 21 ∗ R) (onBufs (k0_part38 (F := F)) c) iprop(DepSt m c 26 ∗ R) ⟨⟩ := by
  intro Q hQ
  rw [onBufs, k0_part38_eq_skeleton]
  unfold k0_part38_skel
  simp only [Prog.lift, Prog.bind_op, Prog.bind_ret, Prog.pure_eq_ret]
  exact depart m c (n := 21) (by decide) (by decide) rfl <| depart m c (n := 22) (by decide) (by decide) rfl <|
    depart m c (n := 23) (by decide) (by decide) rfl <| depart m c (n := 24) (by decide) (by decide) rfl <|
    depart m c (n := 25) (by decide) (by decide) rfl <| done c hQ

theorem part39 (c : Dev nD) (R : sProp 𝕄) :
    Spec c iprop(DepSt m c 26 ∗ R) (onBufs (k0_part39 (F := F)) c) iprop(DepSt m c 31 ∗ R) ⟨⟩ := by
  intro Q hQ
  rw [onBufs, k0_part39_eq_skeleton]
  unfold k0_part39_skel
  simp only [Prog.lift, Prog.bind_op, Prog.bind_ret, Prog.pure_eq_ret]
  exact depart m c (n := 26) (by decide) (by decide) rfl <| depart m c (n := 27) (by decide) (by decide) rfl <|
    depart m c (n := 28) (by decide) (by decide) rfl <| depart m c (n := 29) (by decide) (by decide) rfl <|
    depart m c (n := 30) (by decide) (by decide) rfl <| done c hQ

end Cert.Routed
-- ==== Proof.Body.lean ====
/-
The body of the kernel, run from end to end on a device: the signals, the partial product, the pieces sent, the pieces
received and summed, the departures.
-/
module

public import proofs.«01_k».proof.Proof.Signal
public import proofs.«01_k».proof.Proof.Send
public import proofs.«01_k».proof.Proof.Recv
public import proofs.«01_k».proof.Proof.Depart

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device holds when its body starts, beside `R`. -/
def BegSt (c : Dev nD) (R : sProp 𝕄) : sProp 𝕄 :=
  iprop(SigSt m c 1 ∗ stg c cc0_stg0_0 (x0 m c) ∗ stg c cc0_stg1_0 (x1 m c) ∗ stg c cc0_stg2_0 (x2 m c)
    ∗ BarIn c ∗ (∃ f, rowPts (F := F) c 0 512 f) ∗ stg c cc0_stg3_0 (x3 m c) ∗ SndToks c ∗ stg c cc0_stg4_0 (x4 m c) ∗ RcvIn c
    ∗ (∃ X, stg (F := F) c cc0_stg5_0 X) ∗ bigSep (Finset.Ico 1 32) (fun s => atPos ER (sndCell c s) 0 ∅ 0) ∗ R)

/-- What it holds when its body ends, beside `R`. -/
def EndSt (c : Dev nD) (R : sProp 𝕄) : sProp 𝕄 :=
  iprop(DepSt m c 32 ∗ rowPts c 0 16 (PV m c) ∗ stg c cc0_stg0_0 (x0 m c) ∗ stg c cc0_stg1_0 (x1 m c) ∗ stg c cc0_stg2_0 (x2 m c)
    ∗ stg c cc0_stg3_0 (x3 m c) ∗ stg c cc0_stg4_0 (x4 m c) ∗ stg c cc0_stg5_0 (outAt m c)
    ∗ bigSep (Finset.Ico 1 32) (fun k => iprop(slotPts c (src c k) (CV m c) ∗ atPos ER (rcvCell c (src c k)) 1 ∅ 0))
    ∗ atPos ER (barCell c) 1 ∅ 0 ∗ R)

/-- With every piece received, the departures are what is left to wait for. -/
theorem received (c : Dev nD) (R : sProp 𝕄) :
    iprop(RcvSt m c 32 ∗ Sent c ∗ bigSep (Finset.Ico 1 32) (fun s => atPos ER (sndCell c s) 0 ∅ 0) ∗ R)
      ⊢ iprop(DepSt m c 1 ∗ bigSep (Finset.Ico 1 32) (fun k => iprop(slotPts c (src c k) (CV m c) ∗ atPos ER (rcvCell c (src c k)) 1 ∅ 0)) ∗ R) := by
  unfold RcvSt DepSt Sent
  rw [Finset.Ico_self, Finset.Ico_self, bigSep_empty, bigSep_empty, show 16 * 1 = 16 from rfl, rowPts_nil]
  iintro ⟨⟨HK, -, Hgot, HO⟩, Hcr, Hat, HR⟩
  isplitr [Hgot HR]
  · isplitl [HK]; · iexact HK
    isplitl [Hcr Hat]
    · iapply (Entails.of_eq (bigSep_sep' _ _ _).symm)
      isplitl [Hcr] <;> iassumption
    isplitr; · iempintro
    isplitr; · iempintro
    iexact HO
  isplitl [Hgot] <;> iassumption

set_option maxHeartbeats 1000000 in
theorem body_run (c : Dev nD) (R : sProp 𝕄) {Q : PUnit → sProp 𝕄} (hQ : EndSt m c R ⊢ iprop(|={Set.univ}=> Q ⟨⟩)) :
    BegSt m c R ⊢ run c (onBufs (cc0_body (F := F))) Q := by
  rw [onBufs, cc0_body_eq_skeleton]
  unfold cc0_body_skel BegSt
  -- what each stretch leaves aside
  let A5 : sProp 𝕄 := iprop((∃ X, stg (F := F) c cc0_stg5_0 X) ∗ bigSep (Finset.Ico 1 32) (fun s => atPos ER (sndCell c s) 0 ∅ 0) ∗ R)
  let A4 : sProp 𝕄 := iprop(SndToks c ∗ stg c cc0_stg4_0 (x4 m c) ∗ RcvIn c ∗ A5)
  let A3 : sProp 𝕄 := iprop(BarIn c ∗ (∃ f, rowPts (F := F) c 0 512 f) ∗ stg c cc0_stg3_0 (x3 m c) ∗ A4)
  let A7 : sProp 𝕄 := iprop(stg c cc0_stg0_0 (x0 m c) ∗ stg c cc0_stg1_0 (x1 m c) ∗ stg c cc0_stg2_0 (x2 m c) ∗ A4)
  let A8 : sProp 𝕄 := iprop(rowPts c 0 16 (PV m c) ∗ atPos ER (barCell c) 1 ∅ 0 ∗ stg c cc0_stg0_0 (x0 m c) ∗ stg c cc0_stg1_0 (x1 m c)
    ∗ stg c cc0_stg2_0 (x2 m c) ∗ stg c cc0_stg3_0 (x3 m c) ∗ stg c cc0_stg4_0 (x4 m c) ∗ RcvIn c ∗ A5)
  let A19 : sProp 𝕄 := iprop(atPos ER (barCell c) 1 ∅ 0 ∗ stg c cc0_stg1_0 (x1 m c) ∗ stg c cc0_stg2_0 (x2 m c) ∗ stg c cc0_stg3_0 (x3 m c) ∗ A5)
  let A20 : sProp 𝕄 := iprop(rowPts c 0 16 (PV m c) ∗ stg c cc0_stg0_0 (x0 m c) ∗ stg c cc0_stg4_0 (x4 m c) ∗ Sent c ∗ A19)
  let B : sProp 𝕄 := iprop(rowPts c 0 16 (PV m c) ∗ stg c cc0_stg0_0 (x0 m c) ∗ stg c cc0_stg1_0 (x1 m c) ∗ stg c cc0_stg2_0 (x2 m c)
    ∗ stg c cc0_stg3_0 (x3 m c) ∗ stg c cc0_stg4_0 (x4 m c) ∗ atPos ER (barCell c) 1 ∅ 0 ∗ R)
  let A34 : sProp 𝕄 := iprop(bigSep (Finset.Ico 1 32) (fun k => iprop(slotPts c (src c k) (CV m c) ∗ atPos ER (rcvCell c (src c k)) 1 ∅ 0))
    ∗ stg c cc0_stg5_0 (outAt m c) ∗ B)
  let A1 : sProp 𝕄 := iprop(stg c cc0_stg0_0 (x0 m c) ∗ stg c cc0_stg1_0 (x1 m c) ∗ stg c cc0_stg2_0 (x2 m c) ∗ A3)
  obtain ⟨y1, h1⟩ := part1 m c A1
  refine chain c h1 ?_
  obtain ⟨y2, h2⟩ := part2 m c A1 (word c) y1 32#32
  refine chain c h2 ?_
  obtain ⟨y3, h3⟩ := part3 m c A1 (word c) y2 32#32
  refine chain c h3 ?_
  obtain ⟨y4, h4⟩ := part4 m c A1 (word c) y3 32#32
  refine chain c h4 ?_
  obtain ⟨y5, h5⟩ := part5 m c A1 (word c) y4 32#32
  refine chain c h5 ?_
  refine chain c (part6 m c A3 y5 32#32) ?_
  refine BIBase.Entails.trans (Q := iprop(SigSt m c 32 ∗ BarIn c ∗ (∃ f, rowPts (F := F) c 0 512 f) ∗ stg c cc0_stg3_0 (x3 m c) ∗ A7)) ?_ ?_
  · iintro ⟨HS, H0, H1, H2, HB, Hrows, H3, HA⟩
    isplitl [HS]; · iexact HS
    isplitl [HB]; · iexact HB
    isplitl [Hrows]; · iexact Hrows
    isplitl [H3]; · iexact H3
    isplitl [H0]; · iexact H0
    isplitl [H1]; · iexact H1
    isplitl [H2]; · iexact H2
    iexact HA
  refine chain c (part7 m c A7) ?_
  refine BIBase.Entails.trans (Q := iprop(SndSt m c 1 8 ∗ (∃ f, rowPts (F := F) c 128 512 f) ∗ A8)) ?_ ?_
  · iintro ⟨HB, Hown, Hrows, H3, H0, H1, H2, Htok, H4, Hin, HA⟩
    ihave HX := (ready m c) $$ [HB Hown Htok]
    · isplitl [HB]; · iexact HB
      isplitl [Htok] <;> iassumption
    icases HX with ⟨HS, Hown, Hat⟩
    isplitl [HS]; · iexact HS
    isplitl [Hrows]; · iexact Hrows
    isplitl [Hown]; · iexact Hown
    isplitl [Hat]; · iexact Hat
    isplitl [H0]; · iexact H0
    isplitl [H1]; · iexact H1
    isplitl [H2]; · iexact H2
    isplitl [H3]; · iexact H3
    isplitl [H4]; · iexact H4
    isplitl [Hin] <;> iassumption
  refine chain c (part8 m c iprop((∃ f, rowPts (F := F) c 128 512 f) ∗ A8) (word c)) ?_
  refine chain c (part9 m c iprop((∃ f, rowPts (F := F) c 128 512 f) ∗ A8) (word c)) ?_
  refine chain c (part10 m c A8 (word c)) ?_
  refine chain c (part11 m c iprop((∃ f, rowPts (F := F) c 256 512 f) ∗ A8) (word c)) ?_
  refine chain c (part12 m c iprop((∃ f, rowPts (F := F) c 256 512 f) ∗ A8) (word c)) ?_
  refine chain c (part13 m c A8 (word c)) ?_
  refine chain c (part14 m c iprop((∃ f, rowPts (F := F) c 384 512 f) ∗ A8) (word c)) ?_
  refine chain c (part15 m c iprop((∃ f, rowPts (F := F) c 384 512 f) ∗ A8) (word c)) ?_
  obtain ⟨y16, h16⟩ := part16 m c A8 (word c)
  refine chain c h16 ?_
  refine chain c (part17 m c iprop((∃ f, rowPts (F := F) c 512 512 f) ∗ A8) (word c) y16) ?_
  refine chain c (part18 m c iprop((∃ f, rowPts (F := F) c 512 512 f) ∗ A8) (word c)) ?_
  refine BIBase.Entails.trans (Q := iprop(SndSt m c 31 32 ∗ rowPts c 0 16 (PV m c) ∗ stg c cc0_stg0_0 (x0 m c) ∗ stg c cc0_stg4_0 (x4 m c) ∗ RcvIn c ∗ A19)) ?_ ?_
  · iintro ⟨HS, -, Hown, Hat, H0, H1, H2, H3, H4, Hin, HA⟩
    isplitl [HS]; · iexact HS
    isplitl [Hown]; · iexact Hown
    isplitl [H0]; · iexact H0
    isplitl [H4]; · iexact H4
    isplitl [Hin]; · iexact Hin
    isplitl [Hat]; · iexact Hat
    isplitl [H1]; · iexact H1
    isplitl [H2]; · iexact H2
    isplitl [H3] <;> iassumption
  obtain ⟨y19, h19⟩ := part19 m c A19 (word c)
  refine chain c h19 ?_
  obtain ⟨y20, h20⟩ := part20 m c A20 (word c) y19
  refine chain c h20 ?_
  obtain ⟨y21, h21⟩ := part21 m c A20 (word c) y20
  refine chain c h21 ?_
  refine chain c (part22 m c A20 (word c) y21) ?_
  refine chain c (part23 m c A20 (word c)) ?_
  obtain ⟨y24, h24⟩ := part24 m c A20 (word c)
  refine chain c h24 ?_
  obtain ⟨y25, h25⟩ := part25 m c A20 (word c) y24 32#32
  refine chain c h25 ?_
  obtain ⟨y26, h26⟩ := part26 m c A20 (word c) y25
  refine chain c h26 ?_
  obtain ⟨y27, h27⟩ := part27 m c A20 (word c) y26
  refine chain c h27 ?_
  obtain ⟨y28, h28⟩ := part28 m c A20 (word c) y27
  refine chain c h28 ?_
  refine chain c (part29 m c A20 (word c) y28) ?_
  refine chain c (part30 m c A20 (word c)) ?_
  obtain ⟨y31, h31⟩ := part31 m c A20 (word c)
  refine chain c h31 ?_
  obtain ⟨y32, h32⟩ := part32 m c A20 (word c) y31 32#32
  refine chain c h32 ?_
  refine BIBase.Entails.trans (Q := iprop(RcvSt m c 30 ∗ (∃ X, stg (F := F) c cc0_stg5_0 X) ∗ Sent c
      ∗ bigSep (Finset.Ico 1 32) (fun s => atPos ER (sndCell c s) 0 ∅ 0) ∗ B)) ?_ ?_
  · iintro ⟨HS, Hown, H0, H4, Hsent, Hat, H1, H2, H3, H5, Hats, HR⟩
    isplitl [HS]; · iexact HS
    isplitl [H5]; · iexact H5
    isplitl [Hsent]; · iexact Hsent
    isplitl [Hats]; · iexact Hats
    isplitl [Hown]; · iexact Hown
    isplitl [H0]; · iexact H0
    isplitl [H1]; · iexact H1
    isplitl [H2]; · iexact H2
    isplitl [H3]; · iexact H3
    isplitl [H4]; · iexact H4
    isplitl [Hat] <;> iassumption
  refine chain c (part33 m c _ (word c) y32) ?_
  refine BIBase.Entails.trans (Q := iprop(DepSt m c 1 ∗ A34)) ?_ ?_
  · iintro ⟨HS, H5, Hsent, Hats, HB⟩
    iapply (received m c iprop(stg c cc0_stg5_0 (outAt m c) ∗ B))
    isplitl [HS]; · iexact HS
    isplitl [Hsent]; · iexact Hsent
    isplitl [Hats]; · iexact Hats
    isplitl [H5] <;> iassumption
  refine chain c (part34 m c A34) ?_
  refine chain c (part35 m c A34) ?_
  refine chain c (part36 m c A34) ?_
  refine chain c (part37 m c A34) ?_
  refine chain c (part38 m c A34) ?_
  refine chain c (part39 m c A34) ?_
  simp only [Prog.lift, Prog.bind_op, Prog.bind_ret, Prog.pure_eq_ret]
  refine depart m c (n := 31) (by decide) (by decide) rfl (done_upd c ?_)
  refine BIBase.Entails.trans ?_ hQ
  unfold EndSt
  iintro ⟨HS, Hgot, H5, Hown, H0, H1, H2, H3, H4, Hat, HR⟩
  isplitl [HS]; · iexact HS
  isplitl [Hown]; · iexact Hown
  isplitl [H0]; · iexact H0
  isplitl [H1]; · iexact H1
  isplitl [H2]; · iexact H2
  isplitl [H3]; · iexact H3
  isplitl [H4]; · iexact H4
  isplitl [H5]; · iexact H5
  isplitl [Hgot]; · iexact Hgot
  isplitl [Hat] <;> iassumption

end Cert.Routed
-- ==== Proof.Sums.lean ====
/-
What a device holds for every cell or every slot, put together in two orders: by number, and by the step of the exchange.
-/
module

public import proofs.«01_k».proof.Proof.Steps

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {M : Type _} [URA M] (Φ : ℕ → sProp M)

theorem bigSep_fin (n : ℕ) : bigSep (Finset.univ : Finset (Fin n)) (fun k => Φ k.val) = bigSep (Finset.Ico 0 n) Φ := by
  have h : (Finset.univ : Finset (Fin n)).map Fin.valEmbedding = Finset.Ico 0 n := by
    ext x
    simp only [Finset.mem_map, Finset.mem_univ, true_and, Finset.mem_Ico, Nat.zero_le, Fin.valEmbedding_apply]
    exact ⟨fun ⟨k, hk⟩ => hk ▸ k.isLt, fun h => ⟨⟨x, h⟩, rfl⟩⟩
  rw [← h, BI.bigSep_map]; rfl

theorem bigSep_shift (a b d : ℕ) : bigSep (Finset.Ico (a + d) (b + d)) Φ = bigSep (Finset.Ico a b) (fun k => Φ (k + d)) := by
  have h : (Finset.Ico a b).map (addRightEmbedding d) = Finset.Ico (a + d) (b + d) := by
    ext x
    simp only [Finset.mem_map, Finset.mem_Ico, addRightEmbedding_apply]
    exact ⟨fun ⟨k, hk, e⟩ => by omega, fun h => ⟨x - d, by omega, by omega⟩⟩
  rw [← h, BI.bigSep_map]; rfl

theorem bigSep_parts {a b c : ℕ} (hab : a ≤ b) (hbc : b ≤ c) :
    bigSep (Finset.Ico a c) Φ = iprop(bigSep (Finset.Ico a b) Φ ∗ bigSep (Finset.Ico b c) Φ) := by
  rw [← Finset.Ico_union_Ico_eq_Ico hab hbc]
  exact bigSep_union (Finset.Ico_disjoint_Ico_consecutive a b c)

/-- The devices by how far back they are. -/
def backPerm (c : Dev nD) : Fin 32 ≃ Fin 32 where
  toFun k := ⟨src c k.val, src_lt c k.val⟩
  invFun k := ⟨src c k.val, src_lt c k.val⟩
  left_inv k := Fin.ext (by have := dev_lt c; have := k.isLt; show src c (src c k.val) = k.val; unfold src; omega)
  right_inv k := Fin.ext (by have := dev_lt c; have := k.isLt; show src c (src c k.val) = k.val; unfold src; omega)

/-- The devices by how far on they are. -/
def onPerm (c : Dev nD) : Fin 32 ≃ Fin 32 where
  toFun k := ⟨(dst c k.val).val, dev_lt _⟩
  invFun k := ⟨(k.val + 32 - c.val) % 32, Nat.mod_lt _ (by decide)⟩
  left_inv k := Fin.ext (by
    have := dev_lt c; have := k.isLt
    show ((dst c k.val).val + 32 - c.val) % 32 = k.val; rw [dst_val]; omega)
  right_inv k := Fin.ext (by
    have := dev_lt c; have := k.isLt
    show (dst c ((k.val + 32 - c.val) % 32)).val = k.val; rw [dst_val]; omega)

theorem bigSep_back (c : Dev nD) : bigSep (Finset.Ico 0 32) Φ
    = iprop(Φ c.val ∗ bigSep (Finset.Ico 1 32) (fun k => Φ (src c k))) := by
  rw [← bigSep_fin, BI.bigSep_univ_equiv (backPerm c) (fun k : Fin 32 => Φ k.val),
    show (fun k : Fin 32 => Φ ((backPerm c) k).val) = fun k : Fin 32 => (fun k => Φ (src c k)) k.val from rfl,
    bigSep_fin (fun k => Φ (src c k)), bigSep_Ico_succ_bot (by decide),
    show src c 0 = c.val by have := dev_lt c; unfold src; omega]

theorem bigSep_on (c : Dev nD) : bigSep (Finset.Ico 0 32) Φ
    = iprop(Φ c.val ∗ bigSep (Finset.Ico 1 32) (fun k => Φ (dst c k).val)) := by
  rw [← bigSep_fin, BI.bigSep_univ_equiv (onPerm c) (fun k : Fin 32 => Φ k.val),
    show (fun k : Fin 32 => Φ ((onPerm c) k).val) = fun k : Fin 32 => (fun k => Φ (dst c k).val) k.val from rfl,
    bigSep_fin (fun k => Φ (dst c k).val), bigSep_Ico_succ_bot (by decide),
    show (dst c 0).val = c.val by have := dev_lt c; rw [dst_val]; omega]

/-- The transfer cells of a device: the departures by step and the one never used, then its own arrivals and the others by
    how far back they come from. -/
theorem bigSep_cells (c : Dev nD) : bigSep (Finset.univ : Finset (Fin 64)) (fun k => Φ (6 + k.val))
    = iprop((Φ 37 ∗ bigSep (Finset.Ico 1 32) (fun s => Φ (5 + s)))
      ∗ Φ (38 + c.val) ∗ bigSep (Finset.Ico 1 32) (fun k => Φ (38 + src c k))) := by
  have e1 : bigSep (Finset.Ico 0 32) (fun k => Φ (6 + k)) = iprop(Φ 37 ∗ bigSep (Finset.Ico 1 32) (fun s => Φ (5 + s))) := by
    rw [← show bigSep (Finset.Ico 1 (32 + 1)) (fun s => Φ (5 + s)) = _ from
      bigSep_Ico_succ_top (show 1 ≤ 32 by decide) (fun s => Φ (5 + s)), bigSep_shift (fun s => Φ (5 + s)) 0 32 1]
    exact bigSep_congr fun k _ => by rw [show 6 + k = 5 + (k + 1) by omega]
  have e2 : bigSep (Finset.Ico 32 64) (fun k => Φ (6 + k)) = bigSep (Finset.Ico 0 32) (fun j => Φ (38 + j)) := by
    rw [show Finset.Ico 32 64 = Finset.Ico (0 + 32) (32 + 32) from rfl, bigSep_shift (fun k => Φ (6 + k)) 0 32 32]
    exact bigSep_congr fun k _ => by rw [show 6 + (k + 32) = 38 + k by omega]
  rw [bigSep_fin (fun k => Φ (6 + k)) 64, bigSep_parts (fun k => Φ (6 + k)) (show 0 ≤ 32 by decide) (show 32 ≤ 64 by decide),
    e1, e2, bigSep_back (fun j => Φ (38 + j)) c]

end Cert.Routed
-- ==== Proof.Region.lean ====
/-
The pipeline's view of the kernel: what a device holds before its one point and after it, and the body between the two.
-/
module

public import proofs.«01_k».proof.Proof.Body
public import proofs.«01_k».proof.Proof.Sums

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: departures, then arrivals. -/
def osem : Fin 64 → SemLoc sig := fun k => .dma (dsem (6 + k.val))

/-! ## Closing the cells -/

theorem close (g : GSem nD τ sig) (r : ℕ) (h : ∀ r', r ≤ r' → (sched (F := F) m).duties g r' = ∅) :
    iprop(Known m g ∗ atPos ER g r ∅ 0) ⊢ (|={Set.univ}=> semVal g 0 : sProp 𝕄) := by
  unfold Known
  iintro ⟨⟨⟨%κ, #HI⟩, -⟩, Hat⟩
  iapply (Rounds.cell_close ER (sched m) (Set.mem_univ κ) (fun h => h) (R := r) h)
  isplitr; · iexact HI
  iexact Hat

theorem close_steps (g : ℕ → GSem nD τ sig) (hk : ∀ k ∈ Finset.Ico 1 32, Recs m ⊢ Known m (g k)) :
    iprop(Recs m ∗ bigSep (Finset.Ico 1 32) (fun k => atPos ER (g k) 1 ∅ 0))
      ⊢ (|={Set.univ}=> bigSep (Finset.Ico 1 32) fun k => semVal (g k) 0 : sProp 𝕄) :=
  (BI.bigSep_with_persistent fun k hk' => (sep_mono_left (hk k hk')).trans (close m (g k) 1 (duties_later m (g k)))).trans (bigSep_fupd _ _)

/-! ## The scratch buffers by rows and by slots -/

omit [FloatOps F] in
theorem rows_all (c : Dev nD) (f : Buf (Elt F) ((c : Thread nD τ).loc cc0_scratch0)) :
    (((c : Thread nD τ).loc cc0_scratch0 ↦{fullShare} f : sProp 𝕄)) = rowPts c 0 512 f := by
  unfold rowPts
  rw [show rowS 0 512 = Finset.univ from Finset.eq_univ_of_forall fun i => mem_rowS.mpr ⟨Nat.zero_le _, (i 0).isLt⟩]

theorem slots_disjoint {j j' : ℕ} (h : j ≠ j') : Disjoint (slotS j) (slotS j') := by
  rw [Finset.disjoint_left]; intro i h1 h2; rw [mem_slotS] at h1 h2; exact h (h1.symm.trans h2)

omit [FloatOps F] in
theorem slots_all (c : Dev nD) (f : Buf (Elt F) ((c : Thread nD τ).loc cc0_scratch1)) :
    (((c : Thread nD τ).loc cc0_scratch1 ↦{fullShare} f : sProp 𝕄)) = bigSep (Finset.Ico 0 32) (fun j => slotPts c j f) := by
  unfold slotPts
  refine Eq.trans ?_ (pointsTo_biUnion (ℓ := (c : Thread nD τ).loc cc0_scratch1) (q := fullShare) (f := f) (Finset.Ico 0 32) slotS
    fun _ _ _ _ h => slots_disjoint h)
  rw [show (Finset.Ico 0 32).biUnion slotS = Finset.univ from Finset.eq_univ_of_forall fun i =>
      Finset.mem_biUnion.mpr ⟨(i 0).val, Finset.mem_Ico.mpr ⟨Nat.zero_le _, (i 0).isLt⟩, mem_slotS.mpr rfl⟩]

omit [FloatOps F] in
theorem slot_any (c : Dev nD) (j : ℕ) (f : Buf (Elt F) ((c : Thread nD τ).loc cc0_scratch1)) :
    slotPts (F := F) c j f ⊢ iprop(∃ f, slotPts (F := F) c j f) := by
  iintro H; iexists f; iexact H

omit [FloatOps F] in
/-- A landing buffer handed out: the device's own slot stays, the slot of the device `k` places on is lent to it. -/
theorem slots_out (c : Dev nD) : iprop(∃ f : Buf (Elt F) ((c : Thread nD τ).loc cc0_scratch1), ((c : Thread nD τ).loc cc0_scratch1) ↦{fullShare} f)
    ⊢ iprop((∃ f, slotPts (F := F) c c.val f) ∗ bigSep (Finset.Ico 1 32) fun k => iprop(∃ f, slotPts (F := F) c (dst c k).val f)) := by
  iintro ⟨%f, H⟩
  ihave H := (Entails.of_eq ((slots_all c f).trans (bigSep_on (fun j => slotPts c j f) c))) $$ H
  icases H with ⟨Hown, H⟩
  isplitl [Hown]; · iexists f; iexact Hown
  have h : bigSep (Finset.Ico 1 32) (fun k => slotPts (F := F) c (dst c k).val f)
      ⊢ bigSep (Finset.Ico 1 32) fun k => iprop(∃ f, slotPts (F := F) c (dst c k).val f) :=
    bigSep_mono fun k _ => slot_any c _ f
  iapply h
  iexact H

omit [FloatOps F] in
/-- And put together again. -/
theorem slots_back (c : Dev nD) (g : Buf (Elt F) ((c : Thread nD τ).loc cc0_scratch1)) :
    iprop((∃ f, slotPts (F := F) c c.val f) ∗ bigSep (Finset.Ico 1 32) fun k => slotPts c (src c k) g)
      ⊢ iprop(∃ f : Buf (Elt F) ((c : Thread nD τ).loc cc0_scratch1), ((c : Thread nD τ).loc cc0_scratch1) ↦{fullShare} f) := by
  unfold slotPts
  have hlt := dev_lt c
  have e := pointsTo_biUnion (Ix := Unit) (Name := ℕ) (U := UU) (Lvl := ℕ) (ℓ := (c : Thread nD τ).loc cc0_scratch1) (q := fullShare) (f := g) (Finset.Ico 1 32) (fun k => slotS (src c k))
    fun k hk k' hk' h => slots_disjoint fun e => h (by rw [Finset.mem_Ico] at hk hk'; unfold src at e; omega)
  iintro ⟨⟨%f, Hown⟩, H⟩
  ihave H := (Entails.of_eq e.symm) $$ H
  have hd : Disjoint (slotS c.val) ((Finset.Ico 1 32).biUnion fun k => slotS (src c k)) := by
    rw [Finset.disjoint_biUnion_right]
    intro k hk; rw [Finset.mem_Ico] at hk
    exact slots_disjoint fun e => by unfold src at e; omega
  ihave H := (pointsTo_join (ℓ := (c : Thread nD τ).loc cc0_scratch1) (q := fullShare) (f := f) (g := g) hd) $$ [Hown H]
  · isplitl [Hown] <;> iassumption
  iexists _
  rw [show slotS c.val ∪ ((Finset.Ico 1 32).biUnion fun k => slotS (src c k)) = Finset.univ from Finset.eq_univ_of_forall fun i => by
    have hi : (i 0).val < 32 := (i 0).isLt
    rw [Finset.mem_union, mem_slotS, Finset.mem_biUnion]
    by_cases h : (i 0).val = c.val
    · exact Or.inl h
    · exact Or.inr ⟨(c.val + 32 - (i 0).val) % 32, Finset.mem_Ico.mpr (by omega), mem_slotS.mpr (by unfold src; omega)⟩]
  iexact H

/-! ## The proof data -/

/-- What a device's body starts from, beside the buffers and what it owes: the cells known, the tokens it pays with, its
    places in the rounds, the credit of the signals and of the pieces to come. -/
def Start (c : Dev nD) : sProp 𝕄 :=
  iprop(Recs m ∗ bigSep (Finset.Ico 1 32) (fun s => dutyTok ER (barCell (dst c s)) 0 (32 - s)) ∗ SndToks c ∗ BarIn c ∗ RcvIn c
    ∗ bigSep (Finset.Ico 1 32) (fun s => atPos ER (sndCell c s) 0 ∅ 0) ∗ atPos ER (sndCell c 32) 0 ∅ 0 ∗ atPos ER (rcvCell c c.val) 0 ∅ 0)

/-- The scratch buffers, at any contents. -/
def Scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop(Start m c ∗ Scr (F := F) c)
/-- After the point: the scratch buffers, and every semaphore back at zero. -/
def Φ₁ (c : Dev nD) : sProp 𝕄 :=
  iprop(Scr (F := F) c ∗ (bigSep Finset.univ fun k : Fin 64 => semVal ((c : Thread nD τ), osem k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => x0 m c
    | ⟨1, _⟩ => x1 m c
    | ⟨2, _⟩ => x2 m c
    | ⟨3, _⟩ => x3 m c
    | ⟨4, _⟩ => x4 m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body between them -/

/-- What the body keeps aside all along. -/
def Aside (c : Dev nD) : sProp 𝕄 :=
  iprop((∃ f, slotPts (F := F) c c.val f) ∗ atPos ER (sndCell c 32) 0 ∅ 0 ∗ atPos ER (rcvCell c c.val) 0 ∅ 0)

/-- What the body starts from, as its first step takes it. -/
theorem begins (c : Dev nD) : iprop(Φ₀ m c ∗ ow c (O₀ c) ∗ stg c cc0_stg0_0 (x0 m c) ∗ stg c cc0_stg1_0 (x1 m c) ∗ stg c cc0_stg2_0 (x2 m c)
    ∗ stg c cc0_stg3_0 (x3 m c) ∗ stg c cc0_stg4_0 (x4 m c) ∗ (∃ X, stg (F := F) c cc0_stg5_0 X)) ⊢ BegSt m c (Aside c) := by
  unfold Φ₀ Start Scr BegSt SigSt Aside
  iintro ⟨⟨⟨HK, Htok, Hst, HB, Hin, Hats, Hat1, Hat2⟩, ⟨%f, Hrows⟩, Hland⟩, HO, H0, H1, H2, H3, H4, H5⟩
  ihave Hrows := (Entails.of_eq (rows_all c f)) $$ Hrows
  ihave Hland := (slots_out (F := F) c) $$ Hland
  icases Hland with ⟨Hown, Hland⟩
  isplitl [HK Htok Hland HO]
  · isplitl [HK]; · iexact HK
    isplitl [Htok Hland]
    · iapply (Entails.of_eq (bigSep_sep' _ _ _).symm)
      isplitl [Hland] <;> iassumption
    iexact HO
  isplitl [H0]; · iexact H0
  isplitl [H1]; · iexact H1
  isplitl [H2]; · iexact H2
  isplitl [HB]; · iexact HB
  isplitl [Hrows]; · iexists f; iexact Hrows
  isplitl [H3]; · iexact H3
  isplitl [Hst]; · iexact Hst
  isplitl [H4]; · iexact H4
  isplitl [Hin]; · iexact Hin
  isplitl [H5]; · iexact H5
  isplitl [Hats]; · iexact Hats
  isplitl [Hown]; · iexact Hown
  isplitl [Hat1] <;> iassumption

/-- What its last step leaves, every cell closed. -/
theorem ends (c : Dev nD) : EndSt m c (Aside c) ⊢ (|={Set.univ}=> iprop(Φ₁ (F := F) c ∗ ow c 0 ∗ stg c cc0_stg0_0 (x0 m c) ∗ stg c cc0_stg1_0 (x1 m c)
    ∗ stg c cc0_stg2_0 (x2 m c) ∗ stg c cc0_stg3_0 (x3 m c) ∗ stg c cc0_stg4_0 (x4 m c) ∗ stg c cc0_stg5_0 (outAt m c)) : sProp 𝕄) := by
  unfold EndSt DepSt Aside
  rw [show 16 * 32 = 512 from rfl]
  iintro ⟨⟨#HK, -, Hats, Hrows, HO⟩, Hrow0, H0, H1, H2, H3, H4, H5, Hgot, Hbar, Hown, Hat1, Hat2⟩
  ihave Hgot := (Entails.of_eq (bigSep_sep' (Finset.Ico 1 32) (fun k => slotPts c (src c k) (CV m c)) (fun k => atPos ER (rcvCell c (src c k)) 1 ∅ 0))) $$ Hgot
  icases Hgot with ⟨Hslots, Hatr⟩
  imod (close_steps m (fun s => sndCell c s) fun k hk => known_snd m c (Finset.mem_Ico.mp hk).1 (by have := (Finset.mem_Ico.mp hk).2; omega)) $$ [Hats] with Zs
  · isplitr; · iexact HK
    iexact Hats
  imod (close_steps m (fun k => rcvCell c (src c k)) fun k hk => known_rcv m c (src_lt c k)) $$ [Hatr] with Zr
  · isplitr; · iexact HK
    iexact Hatr
  imod (close m (barCell c) 1 (duties_later m _)) $$ [Hbar] with Zb
  · isplitr; · iapply (known_bar m c); iexact HK
    iexact Hbar
  imod (close m (sndCell c 32) 0 (fun r _ => duties_spare m c r)) $$ [Hat1] with Z1
  · isplitr; · iapply (known_snd m c (s := 32) (by decide) (by decide)); iexact HK
    iexact Hat1
  imod (close m (rcvCell c c.val) 0 (fun r _ => duties_self m c r)) $$ [Hat2] with Z2
  · isplitr; · iapply (known_rcv m c (dev_lt c)); iexact HK
    iexact Hat2
  imodintro
  unfold Φ₁ Scr
  isplitr [HO H0 H1 H2 H3 H4 H5]
  · isplitl [Hrows Hrow0 Hslots Hown]
    · isplitl [Hrows Hrow0]
      · iexists (PV m c)
        rw [rows_all]
        iapply (rowPts_cut c (show 0 ≤ 16 by decide) (show 16 ≤ 512 by decide) (PV m c)).2
        isplitl [Hrow0] <;> iassumption
      · iapply (slots_back c (CV m c))
        isplitl [Hown] <;> iassumption
    isplitr [Zb]
    · iapply (Entails.of_eq (bigSep_cells (fun n => (semVal ((c : Thread nD τ), SemLoc.dma (dsem n)) 0 : sProp 𝕄)) c).symm)
      isplitl [Z1 Zs]
      · isplitl [Z1]; · iexact Z1
        iexact Zs
      · isplitl [Z2]; · iexact Z2
        iexact Zr
    iexact Zb
  isplitl [HO]; · iexact HO
  isplitl [H0]; · iexact H0
  isplitl [H1]; · iexact H1
  isplitl [H2]; · iexact H2
  isplitl [H3]; · iexact H3
  isplitl [H4] <;> iassumption

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
  refine equiv_iff.mp ⟨(?_ : (_ : sProp 𝕄) ⊢ _), (?_ : (_ : sProp 𝕄) ⊢ _)⟩
  · iintro ⟨%f, %hf, H⟩; subst hf; iexact H
  · iintro H; iexists X; isplitr; · (ipureintro; rfl)
    iexact H

theorem before0 (c : Dev nD) (d) : (dats m ρ 0 c).before (0 : Fin 6) t0_0 d = x0 m c := by
  unfold Dat.before; rw [if_pos (show (cfg0.win (0 : Fin 6)).fetch t0_0 = true from rfl)]; rfl
theorem before1 (c : Dev nD) (d) : (dats m ρ 0 c).before (1 : Fin 6) t0_0 d = x1 m c := by
  unfold Dat.before; rw [if_pos (show (cfg0.win (1 : Fin 6)).fetch t0_0 = true from rfl)]; rfl
theorem before2 (c : Dev nD) (d) : (dats m ρ 0 c).before (2 : Fin 6) t0_0 d = x2 m c := by
  unfold Dat.before; rw [if_pos (show (cfg0.win (2 : Fin 6)).fetch t0_0 = true from rfl)]; rfl
theorem before3 (c : Dev nD) (d) : (dats m ρ 0 c).before (3 : Fin 6) t0_0 d = x3 m c := by
  unfold Dat.before; rw [if_pos (show (cfg0.win (3 : Fin 6)).fetch t0_0 = true from rfl)]; rfl
theorem before4 (c : Dev nD) (d) : (dats m ρ 0 c).before (4 : Fin 6) t0_0 d = x4 m c := by
  unfold Dat.before; rw [if_pos (show (cfg0.win (4 : Fin 6)).fetch t0_0 = true from rfl)]; rfl

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ ∗ stg c cc0_stg0_0 (x0 m c) ∗ stg c cc0_stg1_0 (x1 m c) ∗ stg c cc0_stg2_0 (x2 m c)
    ∗ stg c cc0_stg3_0 (x3 m c) ∗ stg c cc0_stg4_0 (x4 m c) ∗ stg c cc0_stg5_0 (outAt m c))

set_option maxRecDepth 16000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (onBufs (cc0_body (F := F))) (fun _ => bodyPost m ρ c)
  refine BIBase.Entails.trans ?_ (body_run m c (Aside c) (Q := fun _ => bodyPost m ρ c) ((ends m c).trans (BI.fupd_mono ?_)))
  · refine BIBase.Entails.trans ?_ (begins m c)
    unfold bodyPre Dat.owesAt Pipeline.owesWithin ow
    iintro ⟨HΦ, ⟨%W, -, HO⟩, ⟨%d0, H0⟩, ⟨%d1, H1⟩, ⟨%d2, H2⟩, ⟨%d3, H3⟩, ⟨%d4, H4⟩, ⟨%d5, H5⟩⟩
    isplitl [HΦ]; · iexact HΦ
    isplitl [HO]; · iexists W; iexact HO
    isplitl [H0]; · rw [before0]; iexact H0
    isplitl [H1]; · rw [before1]; iexact H1
    isplitl [H2]; · rw [before2]; iexact H2
    isplitl [H3]; · rw [before3]; iexact H3
    isplitl [H4]; · rw [before4]; iexact H4
    iexists _; iexact H5
  · unfold bodyPost Dat.owesAt Pipeline.owesWithin ow
    iintro ⟨HΦ, ⟨%W, HO⟩, HR⟩
    isplitl [HΦ]; · iexact HΦ
    isplitl [HO]
    · iexists W
      isplitr; · ipureintro; exact fun _ _ => Or.inl trivial
      iexact HO
    iexact HR

end Cert.Routed
-- ==== Proof.Launch.lean ====
/-
The launch: every cell's invariant from the counters at zero, the tokens and the credit dealt to the devices, and the run
of the whole program on every device.
-/
module

public import proofs.«01_k».proof.Proof.Region
import Idealize.ShloMosaic.Lib.Pipeline.CollectiveSegs

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem osem_eq (k : Fin 64) : (dsem (6 + k.val)).val = 6 + k.val := Nat.mod_eq_of_lt (by omega)

theorem stage_sem (w : Fin cfg0.W) (s) : ((spec0 w).sem s).val < 6 := by
  fin_cases w <;> fin_cases s <;> decide

theorem ownSemFacts : Pipeline.OwnSemFacts cfg0.spec osem where
  isScoped := by decide
  inj k k' h := by
    have := dsem_inj (by omega) (by omega) (SemLoc.dma.inj h)
    exact Fin.ext (by omega)
  disj k w s h := by
    have h1 := congrArg Fin.val (SemLoc.dma.inj h)
    rw [osem_eq] at h1
    have h2 : ((cfg0.spec w).sem s).val < 6 := stage_sem w s
    omega

theorem share_eq (c : Dev nD) (w : Fin cfg0.W) : (dats m ρ 0 c).share w = fullShare := by unfold Dat.share; split <;> rfl

/-! ## The cells and the tokens -/

theorem csem_inj : Function.Injective csem := by
  intro k k' h
  unfold csem at h
  by_cases h0 : k.val = 0
  · by_cases h1 : k'.val = 0
    · exact Fin.ext (h0.trans h1.symm)
    · rw [if_pos h0, if_neg h1] at h; cases h
  · by_cases h1 : k'.val = 0
    · rw [if_neg h0, if_pos h1] at h; cases h
    · rw [if_neg h0, if_neg h1] at h
      have := dsem_inj (by omega) (by omega) (SemLoc.dma.inj h)
      exact Fin.ext (by omega)

theorem kcell_inj : Function.Injective (kcell : Dev nD × Fin 65 → GSem nD τ sig) := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_inj⟩

abbrev Tok := GSem nD τ sig × ℕ × ℕ

/-- The tokens a device pays with, at step `k + 1`: the signal's, -/
abbrev barTok (c : Dev nD) (k : Fin 31) : Tok := (barCell (dst c (k.val + 1)), 0, 32 - (k.val + 1))
/-- the departure's, -/
abbrev sndTok (c : Dev nD) (k : Fin 31) : Tok := (sndCell c (k.val + 1), 0, 0)
/-- the arrival's. -/
abbrev rcvTok (c : Dev nD) (k : Fin 31) : Tok := (rcvCell (dst c (k.val + 1)) c.val, 0, 0)

def tokOf (x : Dev nD × Fin 31 × Fin 3) : Tok :=
  match x.2.2 with
  | 0 => barTok x.1 x.2.1
  | 1 => sndTok x.1 x.2.1
  | 2 => rcvTok x.1 x.2.1

theorem dst_inj {c c' : Dev nD} {s : ℕ} (h : dst c s = dst c' s) : c = c' := by
  have h' := congrArg Fin.val h
  rw [dst_val, dst_val] at h'
  have := dev_lt c; have := dev_lt c'
  exact Fin.ext (by omega)

theorem cell_dev {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩

theorem tokOf_inj : Function.Injective tokOf := by
  rintro ⟨c, k, j⟩ ⟨c', k', j'⟩ h
  have hc := dev_lt c; have hc' := dev_lt c'
  have hk := k.isLt; have hk' := k'.isLt
  have same {g g' : GSem nD τ sig} {i i' : ℕ} (h : ((g, 0, i) : Tok) = (g', 0, i')) : g = g' ∧ i = i' :=
    ⟨congrArg Prod.fst h, congrArg (fun x => x.2.2) h⟩
  have kk (h : k.val = k'.val) : k = k' := Fin.ext h
  have off {s s' : SemLoc sig} {t t' : Thread nD τ} {i i' : ℕ} (h : (((t, s), 0, i) : Tok) = ((t', s'), 0, i')) : s = s' :=
    congrArg (fun x => x.1.2) h
  fin_cases j <;> fin_cases j'
  · replace h : barTok c k = barTok c' k' := h
    obtain ⟨h1, h2⟩ := same h
    obtain rfl := kk (by omega)
    rw [dst_inj (cell_dev h1).1]
  · replace h : barTok c k = sndTok c' k' := h
    cases off h
  · replace h : barTok c k = rcvTok c' k' := h
    cases off h
  · replace h : sndTok c k = barTok c' k' := h
    cases off h
  · replace h : sndTok c k = sndTok c' k' := h
    obtain ⟨h1, h2⟩ := cell_dev (same h).1
    have := dsem_inj (by omega) (by omega) (SemLoc.dma.inj h2)
    obtain rfl := kk (by omega)
    rw [h1]
  · replace h : sndTok c k = rcvTok c' k' := h
    have := dsem_inj (by omega) (by omega) (SemLoc.dma.inj (off h))
    omega
  · replace h : rcvTok c k = barTok c' k' := h
    cases off h
  · replace h : rcvTok c k = sndTok c' k' := h
    have := dsem_inj (by omega) (by omega) (SemLoc.dma.inj (off h))
    omega
  · replace h : rcvTok c k = rcvTok c' k' := h
    obtain ⟨h1, h2⟩ := cell_dev (same h).1
    have := dsem_inj (by omega) (by omega) (SemLoc.dma.inj h2)
    obtain rfl : c = c' := Fin.ext (by omega)
    have h3 := congrArg Fin.val h1
    rw [dst_val, dst_val] at h3
    obtain rfl := kk (by omega)
    rfl

def ringToks : Finset Tok := Finset.univ.map ⟨tokOf, tokOf_inj⟩

def u₀ : UU :=
  (initOf (Pipeline.cells cfgs cellOf_inj) (Pipeline.launchToks cfgs cellOf_inj), initOf ringCells ringToks)

def toks (c : Dev nD) : sProp 𝕄 :=
  iprop(bigSep (Finset.Ico 1 32) (fun s => dutyTok ER (barCell (dst c s)) 0 (32 - s)) ∗ SndToks c)

/-- What the launch deals device `c`. -/
def G (c : Dev nD) : sProp 𝕄 :=
  iprop((bigSep Finset.univ fun k : Fin 65 => roundState ER (sched m) (kcell (c, k)) 0)
    ∗ (bigSep Finset.univ fun k : Fin 65 => iprop(atPos ER (kcell (c, k)) 0 ∅ 0 ∗ reached ER (kcell (c, k)) 0)) ∗ toks c)

/-- A device's places in the rounds. -/
def Places (c : Dev nD) : sProp 𝕄 :=
  iprop(atPos ER (barCell c) 0 ∅ 0 ∗ bigSep (Finset.Ico 1 32) (fun k => atPos ER (rcvCell c (src c k)) 0 ∅ 0)
    ∗ bigSep (Finset.Ico 1 32) (fun s => atPos ER (sndCell c s) 0 ∅ 0) ∗ atPos ER (sndCell c 32) 0 ∅ 0 ∗ atPos ER (rcvCell c c.val) 0 ∅ 0)

/-- What the allocation of the cells makes of it. -/
def G' (c : Dev nD) : sProp 𝕄 := iprop(Recs m ∗ Places c ∗ toks c)

/-! ## A device's cells, by number -/

theorem bigSep_csem {M : Type _} [URA M] (Θ : SemLoc sig → sProp M) : bigSep (Finset.univ : Finset (Fin 65)) (fun k => Θ (csem k))
    = iprop(Θ (.reg barS) ∗ bigSep (Finset.univ : Finset (Fin 64)) fun k => Θ (osem k)) := by
  have e1 : (fun k : Fin 65 => Θ (csem k)) = fun k : Fin 65 => (fun n : ℕ => Θ (if n = 0 then .reg barS else .dma (dsem (5 + n)))) k.val := rfl
  have e2 : (fun k : Fin 64 => Θ (osem k)) = fun k : Fin 64 => (fun n : ℕ => Θ (.dma (dsem (6 + n)))) k.val := rfl
  rw [e1, e2, bigSep_fin (fun n : ℕ => Θ (if n = 0 then .reg barS else .dma (dsem (5 + n)))) 65, bigSep_fin (fun n : ℕ => Θ (.dma (dsem (6 + n)))) 64, bigSep_Ico_succ_bot (by decide : 0 < 65), if_pos rfl,
    show Finset.Ico (0 + 1) 65 = Finset.Ico (0 + 1) (64 + 1) from rfl, bigSep_shift _ 0 64 1]
  refine congrArg _ (bigSep_congr fun k _ => ?_)
  rw [if_neg (by omega), show 5 + (k + 1) = 6 + k by omega]

theorem bigSep_31 {M : Type _} [URA M] (Φ : ℕ → sProp M) :
    bigSep (Finset.univ : Finset (Fin 31)) (fun k => Φ (k.val + 1)) = bigSep (Finset.Ico 1 32) Φ := by
  rw [bigSep_fin (fun k => Φ (k + 1)) 31, ← bigSep_shift Φ 0 31 1]

theorem bigSep_fin3 {M : Type _} [URA M] (Φ : Fin 3 → sProp M) : bigSep Finset.univ Φ = iprop(Φ 0 ∗ Φ 1 ∗ Φ 2) :=
  bigSep_univ_eq_bigSepL [0, 1, 2] (by decide) (by decide) Φ

omit [FloatOps F] in
theorem places_of (c : Dev nD) : (bigSep Finset.univ fun k : Fin 65 => (atPos ER (kcell (c, k)) 0 ∅ 0 : sProp 𝕄)) ⊢ Places c := by
  unfold Places
  have e := bigSep_csem fun s => (atPos ER (((c : Thread nD τ), s) : GSem nD τ sig) 0 ∅ 0 : sProp 𝕄)
  have e' := bigSep_cells (fun n => (atPos ER (((c : Thread nD τ), .dma (dsem n)) : GSem nD τ sig) 0 ∅ 0 : sProp 𝕄)) c
  refine (Entails.of_eq (e.trans (congrArg (fun X => iprop(_ ∗ X)) e'))).trans ?_
  iintro ⟨Hb, ⟨H1, Hs⟩, H2, Hr⟩
  isplitl [Hb]; · iexact Hb
  isplitl [Hr]; · iexact Hr
  isplitl [Hs]; · iexact Hs
  isplitl [H1]; · iexact H1
  iexact H2

/-! ## The allocation -/

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_prod]
    unfold toks SndToks
    rw [← bigSep_31, ← bigSep_31, ← bigSep_sep']
    refine bigSep_congr fun k _ => ?_
    rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq]
  unfold Pipeline.ownSems0
  refine BIBase.Entails.trans ?_ (Entails.of_eq (bigSep_csem fun s => (semVal (((c : Thread nD τ), s) : GSem nD τ sig) 0 : sProp 𝕄)).symm)
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun k => Known m (kcell (c, k))) ∗ Places c ∗ toks c) : sProp 𝕄) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  ihave Hat := (Entails.of_eq (bigSep_sep' Finset.univ (fun k : Fin 65 => (atPos ER (kcell (c, k)) 0 ∅ 0 : sProp 𝕄)) fun k => reached ER (kcell (c, k)) 0)) $$ Hat
  icases Hat with ⟨Hat, Hr⟩
  isplitl [Hinv Hr]
  · unfold Known
    iapply (Entails.of_eq (bigSep_sep' _ _ _).symm)
    isplitl [Hinv] <;> iassumption
  isplitl [Hat]; · iapply (places_of (F := F) c); iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ (|={Set.univ}=> bigSep Finset.univ (G' m) : sProp 𝕄) := by
  have h : (bigSep Finset.univ fun c : Dev nD => iprop((bigSep Finset.univ fun k => Known m (kcell (c, k))) ∗ Places c ∗ toks c) : sProp 𝕄)
      ⊢ bigSep Finset.univ (G' m) := by
    rw [bigSep_sep', ← bigSep_univ_prod (fun ck : Dev nD × Fin 65 => Known m (kcell ck))]
    exact BI.bigSep_with_persistent (R := Recs m) fun c _ => BIBase.Entails.rfl
  exact ((bigSep_mono fun c _ => core_alloc m c).trans (bigSep_fupd _ _)).trans (BI.fupd_mono h)

/-! ## The credit -/

omit [FloatOps F] in
theorem credit_bar (c : Dev nD) : ∑ d : Dev nD, O₀ d (barCell c) () = 31 := by
  have e : ∀ d : Dev nD, O₀ d (barCell c) () = ∑ s ∈ Finset.Ico 1 32, if d = dst c (32 - s) then 1 else 0 := fun d => by
    unfold O₀ owR owB
    rw [Pi.add_apply, Finsupp.add_apply, Finset.sum_apply, Finsupp.finset_sum_apply, Finset.sum_apply, Finsupp.finset_sum_apply,
      Finset.sum_eq_zero (fun s _ => by rw [tallyAt_apply, if_neg fun h => by cases (cell_dev h.1).2]), Nat.zero_add]
    refine Finset.sum_congr rfl fun s hs => ?_
    rw [Finset.mem_Ico] at hs
    rw [tallyAt_apply]
    refine if_congr ⟨fun h => ?_, fun h => ⟨?_, rfl⟩⟩ rfl rfl
    · rw [(cell_dev h.1).1, dst_dst, dst_of_mul _ (by omega)]
    · rw [h, dst_dst, dst_of_mul _ (by omega)]
  rw [Finset.sum_congr rfl fun d _ => e d, Finset.sum_comm, Finset.sum_congr rfl fun s _ => Finset.sum_ite_eq' Finset.univ (dst c (32 - s)) fun _ => 1]
  simp

omit [FloatOps F] in
theorem credit_rcv (c : Dev nD) {k : ℕ} (h1 : 1 ≤ k) (h2 : k < 32) : ∑ d : Dev nD, O₀ d (rcvCell c (src c k)) () = N := by
  have hc := dev_lt c
  have e : ∀ d : Dev nD, O₀ d (rcvCell c (src c k)) () = ∑ s ∈ Finset.Ico 1 32, if c = dst d s ∧ d.val = src c k then N else 0 := fun d => by
    unfold O₀ owR owB
    rw [Pi.add_apply, Finsupp.add_apply, Finset.sum_apply, Finsupp.finset_sum_apply, Finset.sum_apply, Finsupp.finset_sum_apply,
      Finset.sum_eq_zero (s := Finset.Ico 1 32) (f := fun s => tallyAt (barCell (dst d s)) () 1 (rcvCell c (src c k)) ())
        (fun s _ => by rw [tallyAt_apply, if_neg fun h => by cases (cell_dev h.1).2]), Nat.add_zero]
    refine Finset.sum_congr rfl fun s hs => ?_
    rw [tallyAt_apply]
    refine if_congr ⟨fun h => ?_, fun h => ⟨?_, rfl⟩⟩ rfl rfl
    · have hd := cell_dev h.1
      have := dsem_inj (by have := src_lt c k; omega) (by have := dev_lt d; omega) (SemLoc.dma.inj hd.2)
      exact ⟨hd.1, by omega⟩
    · show rcvCell c (src c k) = rcvCell (dst d s) d.val
      rw [← h.1, h.2]
  have hd : dst (⟨src c k, src_lt c k⟩ : Dev nD) k = c := Fin.ext (by rw [dst_val]; show (src c k + k) % 32 = c.val; unfold src; omega)
  rw [Finset.sum_congr rfl fun d _ => e d, Finset.sum_eq_single (⟨src c k, src_lt c k⟩ : Dev nD), Finset.sum_eq_single k]
  · rw [if_pos ⟨hd.symm, rfl⟩]
  · intro s hs hne
    rw [Finset.mem_Ico] at hs
    refine if_neg fun h => hne ?_
    have h' := congrArg Fin.val h.1
    rw [dst_val] at h'
    change c.val = (src c k + s) % 32 at h'
    unfold src at h'; omega
  · intro h; exact absurd (Finset.mem_Ico.mpr ⟨h1, h2⟩) h
  · intro d _ hne
    exact Finset.sum_eq_zero fun s _ => if_neg fun h => hne (Fin.ext h.2)
  · intro h; exact absurd (Finset.mem_univ _) h

omit [FloatOps F] in
theorem launch_of {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred O₀ c : sProp 𝕄) ⊢ iprop(cred (tallyAt (barCell c) () 31)
    ∗ bigSep (Finset.Ico 1 32) fun k => cred (tallyAt (rcvCell c (src c k)) () N)) := by
  unfold Pipeline.launchCred
  rw [bigSep_univ_at _ (SemLoc.reg barS), launch_of (credit_bar c)]
  refine sep_mono_right ?_
  have hsub : (Finset.univ : Finset (Fin 64)).map ⟨osem, ownSemFacts.inj⟩ ⊆ (Finset.univ : Finset (SemLoc sig)).erase (SemLoc.reg barS) := by
    intro s hs
    obtain ⟨k, _, e⟩ := Finset.mem_map.mp hs
    exact Finset.mem_erase.mpr ⟨fun h => (by have h' := e.trans h; cases h'), Finset.mem_univ _⟩
  refine (bigSep_subset hsub).trans ?_
  rw [bigSep_map]
  refine (Entails.of_eq (bigSep_cells (fun n => (cred (tallyOn ((c : Thread nD τ), .dma (dsem n)) (launchCredit (Pipeline.owing O₀) 0 ((c : Thread nD τ), .dma (dsem n)))) : sProp 𝕄)) c)).trans ?_
  iintro ⟨-, -, H⟩
  iapply (Entails.of_eq (bigSep_congr (s := Finset.Ico 1 32) fun k hk => congrArg (fun t => (cred t : sProp 𝕄)) (launch_of (credit_rcv c (Finset.mem_Ico.mp hk).1 (Finset.mem_Ico.mp hk).2))))
  iexact H

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(Start m c ∗ emp) : sProp 𝕄) := by
  unfold G' Places toks Start BarIn RcvIn
  iintro ⟨-, Hlev, Hcr, -, HK, ⟨Hb, Hr, Hs, H1, H2⟩, Htb, Hts⟩
  ihave Hc := (creds (F := F) c) $$ Hcr
  icases Hc with ⟨Hcb, Hcr⟩
  imodintro
  isplitl
  · isplitl [HK]; · iexact HK
    isplitl [Htb]; · iexact Htb
    isplitl [Hts]; · iexact Hts
    isplitl [Hcb Hb Hlev]
    · isplitl [Hcb]; · iexact Hcb
      isplitl [Hb]; · iexact Hb
      iexact Hlev
    isplitl [Hcr Hr]
    · iapply (Entails.of_eq (bigSep_sep' _ _ _).symm)
      isplitl [Hcr] <;> iassumption
    isplitl [Hs]; · iexact Hs
    isplitl [H1] <;> iassumption
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Scr Pipeline.ownSems0
  iintro ⟨Hr, Hz, Hb⟩
  isplitl [Hb]; · iexact Hb
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (Nat.lt_of_lt_of_le (stage_sem w s) (by decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- From any memory with zero counters, for any float values: every weakly fair execution ends, and every end has each
    array at the contents computed, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := Start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Routed
-- ==== Proof.Frames.lean ====
/-
The frames: each program runs to its end, its arguments unchanged and every counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's run: the arguments unchanged, the result at the window's last contents, every counter at zero. -/
theorem run_args (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = finalA m ρ c (5 : Fin 6))
      ∧ r.2.sem = fun _ => 0) :=
  (θ_run defs _ _).mono (fun r h => ⟨fun c => ⟨(h.1 c (0 : Fin 6)).trans (finalA_in m ρ c _ rfl), (h.1 c (1 : Fin 6)).trans (finalA_in m ρ c _ rfl),
    (h.1 c (2 : Fin 6)).trans (finalA_in m ρ c _ rfl), (h.1 c (3 : Fin 6)).trans (finalA_in m ρ c _ rfl), (h.1 c (4 : Fin 6)).trans (finalA_in m ρ c _ rfl),
    h.1 c (5 : Fin 6)⟩, h.2⟩) (run_main m ρ)

theorem frame_ideal : Cert.quiescent_KernelIdeal := fun m ρ _ => (θ_run defs _ _).mono (fun r h => ⟨fun c => by
  obtain ⟨h0, h1, h2, h3, h4, -⟩ := h.1 c
  exact ⟨h0, h1, h2, h3, h4⟩, h.2⟩) (run_args m ρ)

/-! The kernel's program and the ideal program have the same text. -/

set_option maxRecDepth 16000 in
theorem main_same : Cert.Kernel.main (F := F) = Cert.KernelIdeal.main := rfl

set_option maxRecDepth 16000 in
theorem body_same : Cert.Kernel.defs₀ (F := F) = Cert.KernelIdeal.defs₀ := by
  unfold Cert.Kernel.defs₀ Cert.KernelIdeal.defs₀
  congr 1
  funext l t
  match l, t with
  | ⟨0, _⟩, (t, s) => rfl

theorem defs_same : Cert.Kernel.defs (F := F) = Cert.KernelIdeal.defs := by
  unfold Cert.Kernel.defs
  rw [body_same]
  rfl

theorem frame_kernel : Cert.quiescent_Kernel := by
  intro m ρ _
  rw [main_same, defs_same]
  refine (θ_run Cert.KernelIdeal.defs _ _).mono ?_ (run_args (F := Bits) m ρ)
  intro r h
  refine ⟨fun c => ?_, h.2⟩
  obtain ⟨h0, h1, h2, h3, h4, -⟩ := h.1 c
  exact ⟨h0, h1, h2, h3, h4⟩

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Routed
-- ==== Proof.Softmax.lean ====
/-
  The router's arithmetic over the extended reals, away from any program: the scores of one row, their softmax,
  and the two facts that the proof needs of it. With finite inputs a routing probability is a nonnegative real, and
  a nonnegative real may be moved across a sum of products.
-/
module

public import Idealize.ShloMosaic.Lib.Pointwise

@[expose] public section

noncomputable section

namespace Cert.Routed

open Idealize.ShloMosaic

/-- A value is finite: neither of the two infinities. -/
def Finite (x : EReal) : Prop := x ≠ ⊥ ∧ x ≠ ⊤

theorem Finite.coe {x : EReal} (h : Finite x) : ∃ r : ℝ, x = (r : EReal) := ⟨x.toReal, (EReal.coe_toReal h.2 h.1).symm⟩

/-- A finite sum of reals is a real. -/
theorem sum_coe {ι : Type} (s : Finset ι) (f : ι → EReal) (h : ∀ i, ∃ r : ℝ, f i = (r : EReal)) :
    ∃ r : ℝ, ∑ i ∈ s, f i = (r : EReal) := by
  classical
  choose g hg using h
  refine ⟨∑ i ∈ s, g i, ?_⟩
  simp only [hg]
  induction s using Finset.induction_on with
  | empty => rfl
  | insert a s ha ih => rw [Finset.sum_insert ha, Finset.sum_insert ha, ih, EReal.coe_add]

/-- The softmax of a row `s` of scores at expert `e`, its largest score taken off first. -/
def soft (s : Fin 64 → EReal) (e : Fin 64) : EReal :=
  Ideal.div (Ideal.exp (s e - Finset.fold max (Ideal.ofBits .f32 4286578688#32) s Finset.univ))
    (∑ e', Ideal.exp (s e' - Finset.fold max (Ideal.ofBits .f32 4286578688#32) s Finset.univ))

theorem ofBits_bot : Ideal.ofBits .f32 4286578688#32 = ⊥ := by
  simp [Ideal.ofBits, Ideal.ieee]

/-- Real scores have a real largest one. -/
theorem top_score (s : Fin 64 → ℝ) :
    ∃ r : ℝ, Finset.fold max (Ideal.ofBits .f32 4286578688#32) (fun e => (s e : EReal)) Finset.univ = (r : EReal) := by
  rw [ofBits_bot]
  refine Finite.coe ⟨?_, ?_⟩
  · refine (?_ : (⊥ : EReal) < _).ne'
    exact (Finset.lt_fold_max _).2 (.inr ⟨(0 : Fin 64), Finset.mem_univ _, EReal.bot_lt_coe _⟩)
  · exact ((Finset.fold_max_lt _).2 ⟨bot_lt_top, fun e _ => EReal.coe_lt_top _⟩).ne

/-- Of real scores the softmax is a nonnegative real. -/
theorem soft_real (s : Fin 64 → EReal) (hs : ∀ e, ∃ r : ℝ, s e = (r : EReal)) (e : Fin 64) :
    ∃ r : ℝ, 0 ≤ r ∧ soft s e = (r : EReal) := by
  choose g hg using hs
  obtain rfl : s = fun e => (g e : EReal) := funext hg
  obtain ⟨M, hM⟩ := top_score g
  have hsum : ∑ e' : Fin 64, ((Real.exp (g e' - M) : ℝ) : EReal) = ((∑ e', Real.exp (g e' - M) : ℝ) : EReal) := by
    induction (Finset.univ : Finset (Fin 64)) using Finset.induction_on with
    | empty => rfl
    | insert a s ha ih => rw [Finset.sum_insert ha, Finset.sum_insert ha, ih, EReal.coe_add]
  have hpos : (0 : ℝ) < ∑ e', Real.exp (g e' - M) :=
    Finset.sum_pos (fun _ _ => Real.exp_pos _) ⟨0, Finset.mem_univ _⟩
  refine ⟨Real.exp (g e - M) * (1 / ∑ e', Real.exp (g e' - M)), by positivity, ?_⟩
  unfold soft
  simp only [hM, ← EReal.coe_sub, Ideal.exp_coe]
  rw [hsum, Ideal.div_coe hpos.ne', EReal.coe_mul]

/-- A nonnegative real scale inside each product is the scale of the sum. -/
theorem scale_out {p : EReal} (hp : ∃ r : ℝ, 0 ≤ r ∧ p = (r : EReal)) (x w : Fin 256 → EReal) :
    ∑ j, x j * p * w j = p * ∑ j, x j * w j := by
  obtain ⟨r, h0, rfl⟩ := hp
  induction (Finset.univ : Finset (Fin 256)) using Finset.induction_on with
  | empty => simp
  | insert a s ha ih =>
    rw [Finset.sum_insert ha, Finset.sum_insert ha, ih,
      EReal.left_distrib_of_nonneg_of_ne_top (by exact_mod_cast h0) (EReal.coe_ne_top r), mul_comm (x a), mul_assoc]

/-- The words of two experts are equal exactly when the experts are. -/
theorem word_inj (a b : Fin 64) : BitVec.ofNat 32 a.val = BitVec.ofNat 32 b.val ↔ a = b := by
  constructor
  · intro h
    have := congrArg BitVec.toNat h
    simp only [BitVec.toNat_ofNat] at this
    exact Fin.ext (by omega)
  · rintro rfl; rfl

/-- The sum over experts of a row of probabilities, kept only where the expert is the row's own `e` and is `t`. -/
theorem picked (P : Fin 64 → EReal) (e t : Fin 64) :
    ∑ k : Fin 64, Scalar.select (IntOp.andi (IntOp.cmpi .eq (BitVec.ofNat 32 k.val) (BitVec.ofNat 32 e.val))
      (IntOp.cmpi .eq (BitVec.ofNat 32 k.val) (BitVec.ofNat 32 t.val))) (P k) 0 = if e = t then P e else 0 := by
  have h : ∀ k : Fin 64, Scalar.select (IntOp.andi (IntOp.cmpi .eq (BitVec.ofNat 32 k.val) (BitVec.ofNat 32 e.val))
      (IntOp.cmpi .eq (BitVec.ofNat 32 k.val) (BitVec.ofNat 32 t.val))) (P k) 0 = if k = e then (if e = t then P e else 0) else 0 := by
    intro k
    by_cases h1 : k = e
    · subst h1
      by_cases h2 : k = t
      · subst h2; simp [IntOp.cmpi, IntOp.andi, Scalar.select]
      · have := beq_eq_false_iff_ne.2 (mt (word_inj k t).1 h2)
        simp [IntOp.cmpi, IntOp.andi, Scalar.select, h2, this]
    · have := beq_eq_false_iff_ne.2 (mt (word_inj k e).1 h1)
      simp [IntOp.cmpi, IntOp.andi, Scalar.select, h1, this]
  rw [Finset.sum_congr rfl fun k _ => h k, Finset.sum_ite_eq' Finset.univ e, if_pos (Finset.mem_univ _)]

end Cert.Routed
-- ==== Proof.KernelValue.lean ====
/-
  What the kernel computes, read at one index over the extended reals. The operands that every device holds are
  named once (`Args`): the tokens `x`, the router `r`, the expert `e n` that row `n` is sent to, the experts' weights
  `W` and the shared expert's weights `s`. Device `d` holds experts `2 d` and `2 d + 1`.
-/
module

public import proofs.«01_k».proof.Proof.Recv
public import proofs.«01_k».proof.Proof.Softmax

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The whole arrays of a call: one copy of what the devices hold. -/
structure Args where
  x : FVec Ideal S512x256 .f32
  r : FVec Ideal S256x64 .f32
  e : Fin 512 → Fin 64
  W : (⟨3, ![64, 256, 512]⟩ : Shape).Idx → EReal
  s : FVec Ideal S256x512 .f32

/-- The expert that device `d` holds in place `b`. -/
def held (d : Dev nD) (b : Fin 2) : Fin 64 := ⟨2 * d.val + b.val, by have := dev_lt d; omega⟩

/-- Every device's operands are its part of the whole arrays. -/
structure Holds (a : Args) : Prop where
  x : ∀ c, x0 m c = a.x
  r : ∀ c, x1 m c = a.r
  e : ∀ c n, x2 m c (ix2 n 0) = BitVec.ofNat 32 (a.e n).val
  W : ∀ c b j h, x3 m c (ix3 b j h) = a.W (ix3 (held c b) j h)
  s : ∀ c, x4 m c = a.s

/-- The router's scores of row `n`. -/
def Args.score (a : Args) (n : Fin 512) (k : Fin 64) : EReal := ∑ j : Fin 256, a.x (ix2 n j) * a.r (ix2 j k)

/-- The routing probability of row `n`: its softmax at its own expert. -/
def Args.prob (a : Args) (n : Fin 512) : EReal := soft (a.score n) (a.e n)

/-- The weight that expert `k` gives row `n`: the routing probability if the row is sent to it, zero otherwise. -/
def Args.share (a : Args) (n : Fin 512) (k : Fin 64) : EReal := if a.e n = k then a.prob n else 0

theorem word_first (c : Dev nD) : Scalar.addi (Scalar.muli (word c) 2#32) 0#32 = BitVec.ofNat 32 (held c 0).val := by
  revert c; decide
theorem word_second (c : Dev nD) : Scalar.addi (Scalar.muli (word c) 2#32) 1#32 = BitVec.ofNat 32 (held c 1).val := by
  revert c; decide
theorem word_turn (c : Dev nD) :
    (Scalar.muli (Scalar.subi 0#32 (word c)) 16#32).toNat % 512 = (512 - 16 * c.val) % 512 := by
  revert c; decide

theorem probs_apply (a : Args) (n : Fin 512) (k : Fin 64) :
    k0_pay2 (F := Ideal) a.x a.r (ix2 n k) = soft (a.score n) k := by
  pointwise [k0_pay2, k0_pay1, soft, Args.score]

variable {m} {a : Args} (H : Holds m a)

/-- The row of the tokens that row `i` of device `c`'s turned operand is. -/
def row (c : Dev nD) (i : Fin 512) : Fin 512 := ⟨(i.val + 16 * c.val) % 512, Nat.mod_lt _ (by decide)⟩

include H in
theorem first_apply (c : Dev nD) (n : Fin 512) (j : Fin 256) :
    k0_pay4 (F := Ideal) (word c) (x0 m c) (x1 m c) (x2 m c) (ix2 n j) = a.x (ix2 n j) * a.share n (held c 0) := by
  rw [H.x, H.r]
  pointwise [k0_pay4, k0_pay1, k0_pay3]
  simp only [H.e, word_first, probs_apply, picked]
  rfl

include H in
theorem turned_apply (c : Dev nD) (i k : Fin 512) :
    turned m c (ix2 i k) = a.x (ix2 (row c i) ⟨k.val % 256, Nat.mod_lt _ (by decide)⟩)
      * a.share (row c i) (held c ⟨k.val / 256, by have := k.isLt; omega⟩) := by
  have hrow : ∀ h, (⟨(i.val + 512 - (Scalar.muli (Scalar.subi 0#32 (word c)) 16#32).toNat % 512) % 512, h⟩ : Fin 512) = row c i := by
    intro h
    have := dev_lt c
    have := i.isLt
    refine Fin.ext ?_
    show (i.val + 512 - (Scalar.muli (Scalar.subi 0#32 (word c)) 16#32).toNat % 512) % 512 = (i.val + 16 * c.val) % 512
    rw [word_turn]; omega
  unfold turned
  pointwise [k0_pay5]
  simp only [hrow]
  have := k.isLt
  split
  · rename_i h'
    have hb : ∀ h, (⟨k.val / 256, h⟩ : Fin 2) = 0 := fun _ => Fin.ext (by show k.val / 256 = 0; omega)
    have hj : ∀ h, (⟨k.val % 256, h⟩ : Fin 256) = ⟨k.val, h'⟩ := fun _ => Fin.ext (by show k.val % 256 = k.val; omega)
    rw [first_apply H, hb, hj]
  · rename_i h
    rw [H.x, H.r]
    pointwise [k0_pay1, k0_pay3, expIota]
    simp only [H.e, word_second, probs_apply, picked]
    have hb : ∀ h, (⟨k.val / 256, h⟩ : Fin 2) = 1 := fun _ => Fin.ext (by show k.val / 256 = 1; omega)
    have hj : ∀ h, (⟨k.val % 256, h⟩ : Fin 256) = ⟨k.val - 256, by omega⟩ :=
      fun _ => Fin.ext (by show k.val % 256 = k.val - 256; omega)
    rw [hb, hj]
    rfl

include H in
theorem stacked_apply (c : Dev nD) (k h : Fin 512) :
    stacked m c (ix2 k h) = a.W (ix3 (held c ⟨k.val / 256, by have := k.isLt; omega⟩) ⟨k.val % 256, Nat.mod_lt _ (by decide)⟩ h) := by
  unfold stacked
  pointwise [k0_pay6]
  exact H.W _ _ _ _

/-- One product of the routed part at row `n`, column `h`: expert `t`'s, at contraction index `j`. -/
def Args.term (a : Args) (n h : Fin 512) (t : Fin 64) (j : Fin 256) : EReal :=
  a.x (ix2 n j) * a.share n t * a.W (ix3 t j h)

/-- What device `d` adds at row `n`, column `h` of the result: its two experts' products. -/
def Args.contr (a : Args) (d : Dev nD) (n h : Fin 512) : EReal := ∑ b : Fin 2, ∑ j : Fin 256, a.term n h (held d b) j

theorem chunk_apply (c : Dev nD) {q : ℕ} (hq : q < 4) (b : Fin 128) (h : Fin 512) :
    chunk m c q (ix2 b h) = ∑ k : Fin 512, turned m c (ix2 ⟨128 * q + b.val, by omega⟩ k) * stacked m c (ix2 k h) := by
  unfold chunk
  interval_cases q
  · rw [if_pos rfl]
    pointwise [k0_pay7]
    rfl
  · rw [if_neg (by decide), if_pos rfl]; pointwise [k0_pay8]
  · rw [if_neg (by decide), if_neg (by decide), if_pos rfl]; pointwise [k0_pay9]
  · rw [if_neg (by decide), if_neg (by decide), if_neg (by decide)]; pointwise [k0_pay10]

include H in
/-- Row `i` of device `c`'s partial product is what the device adds to row `row c i` of the result. -/
theorem PV_apply (c : Dev nD) (i h : Fin 512) : PV m c (ix2 i h) = a.contr c (row c i) h := by
  have hi : crow i.val h.val = ix2 (⟨i.val % 128, Nat.mod_lt _ (by decide)⟩ : Fin 128) h := by
    funext d
    match d with
    | ⟨0, _⟩ => rfl
    | ⟨1, _⟩ => exact Fin.ext (by show h.val % 512 = h.val; omega)
  have hr : ∀ h, (⟨128 * (i.val / 128) + i.val % 128, h⟩ : Fin 512) = i := fun _ => Fin.ext (by
    show 128 * (i.val / 128) + i.val % 128 = i.val; omega)
  show chunk m c (i.val / 128) (crow i.val h.val) = _
  rw [hi, chunk_apply c (by omega)]
  unfold Args.contr
  rw [← Fintype.sum_prod_type' fun (b : Fin 2) (j : Fin 256) => a.term (row c i) h (held c b) j]
  refine Fintype.sum_equiv (finProdFinEquiv (m := 2) (n := 256)).symm _ _ fun k => ?_
  rw [hr, turned_apply H, stacked_apply H]
  rfl

end Cert.Routed
-- ==== Proof.OutValue.lean ====
/-
  The result of the kernel read at one index: the shared expert's row plus what each of the thirty-two devices adds.
-/
module

public import proofs.«01_k».proof.Proof.KernelValue
public import proofs.«01_k».proof.Proof.Launch
public import Idealize.ShloMosaic.Lib.Pipeline.ValueKit

@[expose] public section

noncomputable section

namespace Cert.Routed

open Cert.KernelIdeal Cert.KernelIdeal.Gen

open Idealize.ShloMosaic
open Idealize.ShloMosaic.TcCoe

variable {m : (ℓ : Loc nD τ sig) → Buf (Elt Ideal) ℓ} {a : Args} (H : Holds m a)

/-- The row of the result that row `r` of device `c`'s block is. -/
def outRow (c : Dev nD) (r : Fin 16) : Fin 512 := ⟨16 * c.val + r.val, by have := dev_lt c; omega⟩

theorem off_own (c : Dev nD) : k0_off3 c = ![16 * c.val, 0] := by revert c; decide

include H in
theorem ownX_apply (c : Dev nD) (r : Fin 16) (j : Fin 256) : ownX m c (ix2 r j) = a.x (ix2 (outRow c r) j) := by
  rw [← H.x c]
  show x0 m c ((Rect.unit (s := S512x256) (k0_off3 c) S16x256.size (k0_off3_inb c)).emb (ix2 r j)) = _
  refine congrArg (x0 m c) ?_
  have h0 : k0_off3 c 0 = 16 * c.val := by rw [off_own]; rfl
  have h1 : k0_off3 c 1 = 0 := by rw [off_own]; rfl
  funext d
  match d with
  | ⟨0, _⟩ => exact Fin.ext (by show k0_off3 c 0 + 1 * r.val = 16 * c.val + r.val; omega)
  | ⟨1, _⟩ => exact Fin.ext (by show k0_off3 c 1 + 1 * j.val = j.val; omega)

include H in
theorem mine_apply (c : Dev nD) (r : Fin 16) (h : Fin 512) : mine m c (ix2 r h) = a.contr c (outRow c r) h := by
  have hr : row c ⟨r.val, by omega⟩ = outRow c r := Fin.ext (by
    have := dev_lt c
    show (r.val + 16 * c.val) % 512 = 16 * c.val + r.val; omega)
  rw [← hr, ← PV_apply H]
  show PV m c ((Rect.unit (s := S512x512) ![0, 0] S16x512.size inb_S512x512_S16x512_0_0).emb (ix2 r h)) = _
  refine congrArg (PV m c) ?_
  funext d
  match d with
  | ⟨0, _⟩ => exact Fin.ext (by show 0 + 1 * r.val = r.val; omega)
  | ⟨1, _⟩ => exact Fin.ext (by show 0 + 1 * h.val = h.val; omega)

include H in
theorem piece_apply (c : Dev nD) {k : ℕ} (hk : k < 32) (z : Fin 1) (r : Fin 16) (h : Fin 512) :
    piece m c k (ix3 z r h) = a.contr (dst c (32 - k)) (outRow c r) h := by
  have hr : row (dst c (32 - k)) ⟨16 * k + r.val, by omega⟩ = outRow c r := Fin.ext (by
    have := dev_lt c
    show (16 * k + r.val + 16 * ((c.val + (32 - k)) % 32)) % 512 = 16 * c.val + r.val; omega)
  rw [← hr, ← PV_apply H]
  refine congrArg (PV m (dst c (32 - k))) (eq_prow ?_ ?_).symm <;> rfl

include H in
theorem acc1_apply (c : Dev nD) (r : Fin 16) (h : Fin 512) : acc1 m c (ix2 r h)
    = (∑ j : Fin 256, a.x (ix2 (outRow c r) j) * a.s (ix2 j h))
      + ∑ k ∈ Finset.range 2, a.contr (dst c (32 - k)) (outRow c r) h := by
  have h0 : dst c 32 = c := Fin.ext (by have := dev_lt c; show (c.val + 32) % 32 = c.val; omega)
  unfold acc1
  pointwise [k0_pay11]
  simp only [ownX_apply H, mine_apply H, piece_apply H c (show 1 < 32 by decide), H.s, Finset.sum_range_succ,
    Finset.sum_range_zero, zero_add, Nat.sub_zero, h0, add_assoc]

include H in
/-- The block that device `c` stores: the shared expert's rows plus every device's part. -/
theorem outAt_apply (c : Dev nD) (r : Fin 16) (h : Fin 512) : outAt m c (ix2 r h)
    = (∑ j : Fin 256, a.x (ix2 (outRow c r) j) * a.s (ix2 j h))
      + ∑ k ∈ Finset.range 32, a.contr (dst c (32 - k)) (outRow c r) h := by
  have hp : ∀ k (hk : k < 32), piece m c k (ix3 0 r h) = a.contr (dst c (32 - k)) (outRow c r) h :=
    fun k hk => piece_apply H c hk 0 r h
  unfold outAt acc29 acc27 acc24 acc22 acc20 acc18 acc16 acc14 acc12 acc9 acc7 acc5 acc3
  pointwise [k0_pay12, k0_pay13, k0_pay14, k0_pay15, k0_pay16, k0_pay17, k0_pay18, k0_pay19, k0_pay20, k0_pay21, k0_pay22,
    k0_pay23, k0_pay24, k0_pay25, k0_pay26, k0_pay27]
  simp (discharger := decide) only [acc1_apply H, hp, Finset.sum_range_succ, Finset.sum_range_zero, zero_add, add_assoc]

/-- What the thirty-two devices add, in the order of their places from `c`, is what they add in the order of their numbers. -/
theorem sum_places (c : Dev nD) (f : Dev nD → EReal) : ∑ k ∈ Finset.range 32, f (dst c (32 - k)) = ∑ d : Dev nD, f d := by
  have hinj : Function.Injective fun k : Fin 32 => dst c (32 - k.val) := fun k l hkl => Fin.ext (by
    have := congrArg Fin.val hkl
    change (c.val + (32 - k.val)) % 32 = (c.val + (32 - l.val)) % 32 at this
    omega)
  rw [← Fin.sum_univ_eq_sum_range fun k => f (dst c (32 - k))]
  exact Fintype.sum_bijective (fun k : Fin 32 => dst c (32 - k.val)) (Finite.injective_iff_bijective.1 hinj) _ _ fun _ => rfl

/-- The devices' pairs of experts are the sixty-four experts. -/
theorem sum_held (f : Fin 64 → EReal) : ∑ d : Dev nD, ∑ b : Fin 2, f (held d b) = ∑ t : Fin 64, f t := by
  rw [← Fintype.sum_prod_type' fun (d : Dev nD) (b : Fin 2) => f (held d b)]
  refine Fintype.sum_equiv (finProdFinEquiv (m := 32) (n := 2)) _ _ fun p => ?_
  refine congrArg f (Fin.ext ?_)
  show 2 * p.1.val + p.2.val = p.2.val + 2 * p.1.val
  omega

/-- The result at row `n`, column `h`: the shared expert's product plus the routed expert's, scaled by the probability. -/
def Args.out (a : Args) (n h : Fin 512) : EReal :=
  (∑ j : Fin 256, a.x (ix2 n j) * a.s (ix2 j h)) + a.prob n * ∑ j : Fin 256, a.x (ix2 n j) * a.W (ix3 (a.e n) j h)

/-- With real tokens and a real router the routing probability is a real, not below zero. -/
theorem Args.prob_real (a : Args) (hx : ∀ i, Finite (a.x i)) (hr : ∀ i, Finite (a.r i)) (n : Fin 512) :
    ∃ r : ℝ, 0 ≤ r ∧ a.prob n = (r : EReal) :=
  soft_real _ (fun k => sum_coe _ (fun j => a.x (ix2 n j) * a.r (ix2 j k)) fun j => by
    obtain ⟨u, hu⟩ := (hx (ix2 n j)).coe
    obtain ⟨v, hv⟩ := (hr (ix2 j k)).coe
    exact ⟨u * v, by rw [hu, hv, EReal.coe_mul]⟩) _

/-- The devices' parts at one index add to the one expert's product that the row is sent to. -/
theorem sum_contr (a : Args) (hx : ∀ i, Finite (a.x i)) (hr : ∀ i, Finite (a.r i)) (n h : Fin 512) :
    ∑ d : Dev nD, a.contr d n h = a.prob n * ∑ j : Fin 256, a.x (ix2 n j) * a.W (ix3 (a.e n) j h) := by
  unfold Args.contr
  rw [sum_held fun t => ∑ j : Fin 256, a.term n h t j, Finset.sum_eq_single (a.e n)]
  · simp only [Args.term, Args.share, if_true]
    exact scale_out (a.prob_real hx hr n) _ _
  · intro t _ ht
    refine Finset.sum_eq_zero fun j _ => ?_
    simp only [Args.term, Args.share, if_neg ht.symm, mul_zero, zero_mul]
  · exact fun hn => absurd (Finset.mem_univ _) hn

include H in
theorem outAt_eq (hx : ∀ i, Finite (a.x i)) (hr : ∀ i, Finite (a.r i)) (c : Dev nD) (r : Fin 16) (h : Fin 512) :
    outAt m c (ix2 r h) = a.out (outRow c r) h := by
  rw [outAt_apply H, sum_places c fun d => a.contr d (outRow c r) h, sum_contr a hx hr]
  rfl

/-- The result window is written back once, whole: the result ends at what the device stored. -/
theorem final_out {F : FTy → Type} [FloatOps F] (m : (ℓ : Loc nD τ sig) → Buf (Elt F) ℓ) (ρ : Dev nD → PrngReg) (c : Dev nD) :
    finalA m ρ c (5 : Fin 6) = outAt m c :=
  (dats m ρ 0 c).arrAt_eq_of_after_last (5 : Fin 6) t0_0 (by decide +kernel) _ fun j => rfl

end Cert.Routed
-- ==== Proof.RefValue.lean ====
/-
  The reference read at one index over the extended reals: the shared expert's product plus the routed expert's, scaled
  by the softmax probability of the row's expert.
-/
module

public import proofs.«01_k».proof.Proof.Gen.ReferenceIdeal.Run
public import proofs.«01_k».proof.Proof.Softmax
public import Idealize.ShloMosaic.Lib.ReduceAll
public import Idealize.ShloMosaic.Lib.Pointwise

@[expose] public section

noncomputable section

namespace Cert.Routed

open Cert.ReferenceIdeal Cert.ReferenceIdeal.Gen

open Idealize.ShloMosaic

/-! ## The two gathers -/

section Gathers

variable {α : Type}

/-- Entry `n` of the first gather: row `n`, at the column the start index names, kept inside the row. -/
theorem pick_apply (x : S512x64.Idx → α) (idx : IVec S512x1x1 32) (n : Fin 512) :
    Host.gather gather_S512x64_S512x1x1_S512x1_n_1_0_0_1_2_11 x idx (ix2 n 0)
      = x (ix2 n ⟨min (idx (ix3 n 0 0)).toInt.toNat 63, by omega⟩) := by
  let d := gather_S512x64_S512x1x1_S512x1_n_1_0_0_1_2_11
  let y : S512x1.Idx := ix2 n 0
  refine congrArg x (funext fun b => ?_)
  match b with
  | ⟨0, h0⟩ =>
    refine Fin.ext ?_
    show d.start y idx 0 + d.batchCoord y 0 + d.offCoord y 0 = n.val
    have hb : (0 : Fin S512x64.rank) ∈ d.operandBatchingDims := List.mem_singleton.mpr rfl
    rw [d.start_batching _ _ _ hb, d.offCoord_eq_zero _ _ fun h => ((d.mem_sKept _).1 h).2 hb]
    unfold GatherDims.batchCoord
    rw [dif_pos hb, Nat.zero_add, Nat.add_zero]
    rfl
  | ⟨1, h1⟩ =>
    refine Fin.ext ?_
    show d.start y idx 1 + d.batchCoord y 1 + d.offCoord y 1 = min (idx (ix3 n 0 0)).toInt.toNat 63
    have hm : (1 : Fin S512x64.rank) ∈ d.startIndexMap := List.mem_singleton.mpr rfl
    rw [d.batchCoord_eq_zero _ _ fun h => d.sim_disjoint _ hm h,
      d.offCoord_eq_zero _ _ fun h => ((d.mem_sKept _).1 h).1 (List.mem_singleton.mpr rfl)]
    unfold GatherDims.start
    rw [dif_pos hm]
    simp only [Nat.add_zero]
    refine congrArg (fun i => min (idx i).toInt.toNat 63) (funext fun c => ?_)
    match c with
    | ⟨0, _⟩ => rfl
    | ⟨1, _⟩ => rfl
    | ⟨2, _⟩ => rfl

/-- Entry `n, j, h` of the second gather: entry `j, h` of the matrix the start index names. -/
theorem expert_apply (W : S64x256x512.Idx → α) (idx : IVec S512x1 32) (n : Fin 512) (j : Fin 256) (h : Fin 512) :
    Host.gather gather_S64x256x512_S512x1_S512x256x512_12_0_n_n_0_1_1256512 W idx (ix3 n j h)
      = W (ix3 ⟨min (idx (ix2 n 0)).toInt.toNat 63, by omega⟩ j h) := by
  let d := gather_S64x256x512_S512x1_S512x256x512_12_0_n_n_0_1_1256512
  let y : S512x256x512.Idx := ix3 n j h
  refine congrArg W (funext fun b => ?_)
  have hz : ∀ b, d.batchCoord y b = 0 := fun b => d.batchCoord_eq_zero _ _ List.not_mem_nil
  have hs : ∀ b : Fin 3, b ≠ 0 → d.start y idx b = 0 := fun b hb => by
    unfold GatherDims.start
    exact dif_neg fun h => hb (List.mem_singleton.mp h)
  match b with
  | ⟨0, h0⟩ =>
    refine Fin.ext ?_
    show d.start y idx 0 + d.batchCoord y 0 + d.offCoord y 0 = min (idx (ix2 n 0)).toInt.toNat 63
    rw [hz, d.offCoord_eq_zero _ _ fun h => ((d.mem_sKept _).1 h).1 (List.mem_singleton.mpr rfl)]
    have hm : (0 : Fin S64x256x512.rank) ∈ d.startIndexMap := List.mem_singleton.mpr rfl
    unfold GatherDims.start
    rw [dif_pos hm]
    simp only [Nat.add_zero]
    refine congrArg (fun i => min (idx i).toInt.toNat 63) (funext fun c => ?_)
    match c with
    | ⟨0, _⟩ => rfl
    | ⟨1, _⟩ => rfl
  | ⟨1, h1⟩ =>
    refine Fin.ext ?_
    show d.start y idx 1 + d.batchCoord y 1 + d.offCoord y 1 = j.val
    have hk : (1 : Fin S64x256x512.rank) ∈ d.sKept :=
      (d.mem_sKept _).2 ⟨fun h => absurd (List.mem_singleton.mp h) (by decide), List.not_mem_nil⟩
    rw [hz, hs 1 (by decide)]
    unfold GatherDims.offCoord
    rw [dif_pos hk]
    simp only [Nat.zero_add]
    rfl
  | ⟨2, h2⟩ =>
    refine Fin.ext ?_
    show d.start y idx 2 + d.batchCoord y 2 + d.offCoord y 2 = h.val
    have hk : (2 : Fin S64x256x512.rank) ∈ d.sKept :=
      (d.mem_sKept _).2 ⟨fun h => absurd (List.mem_singleton.mp h) (by decide), List.not_mem_nil⟩
    rw [hz, hs 2 (by decide)]
    unfold GatherDims.offCoord
    rw [dif_pos hk]
    simp only [Nat.zero_add]
    rfl

end Gathers

/-! ## The parts of the reference -/

variable (x : FVec Ideal S512x256 .f32) (r : FVec Ideal S256x64 .f32) (t : IVec S512x1 32)
  (W : FVec Ideal S64x256x512 .f32) (s : FVec Ideal S256x512 .f32)

def refScores : FVec Ideal S512x64 .f32 := Host.dotGeneral dot_S512x256_S256x64_S512x64_1_0_0_1_n_n none x r

def refExp : FVec Ideal S512x64 .f32 :=
  Host.exp (subf (refScores x r) (broadcastInDim S512x64 ![0, 1] bcast_S512x1_S512x64_0_1 (broadcastInDim S512x1 ![0] bcast_S512_S512x1_0
    (Host.reduce FloatOps.maximumf (refScores x r) (constant S_ .f32 0xFF800000#32) reducesTo_S512x64_S512_d1 h_S_))))

def refProbs : FVec Ideal S512x64 .f32 :=
  Host.divf (refExp x r) (broadcastInDim S512x64 ![0, 1] bcast_S512x1_S512x64_0_1 (broadcastInDim S512x1 ![0] bcast_S512_S512x1_0
    (Host.reduceAdd (refExp x r) (constant S_ .f32 0x00000000#32) reducesTo_S512x64_S512_d1 h_S_)))

/-- The column each row picks, as the start indices of the first gather. -/
def refCols : IVec S512x1x1 32 :=
  shapeCast _ (select (cmpi .slt t (broadcastInDim S512x1 ![] bcast_S_S512x1 (constantI S_ 32 0#32)))
    (addi t (broadcastInDim S512x1 ![] bcast_S_S512x1 (constantI S_ 32 64#32))) t) shapeCasts_S512x1_S512x1x1

/-- Whether the column is one of the row's. -/
def refInside : IVec S512x1 1 :=
  Host.reduce IntOp.andi (andi (cmpi .sge (refCols t) (broadcastInDim S512x1x1 ![] bcast_S_S512x1x1 (constantI S_ 32 0#32)))
    (cmpi .sle (refCols t) (broadcastInDim S512x1x1 ![0, 1, 2] bcast_S1x1x1_S512x1x1_0_1_2 (broadcastInDim S1x1x1 ![2] bcast_S1_S1x1x1_2 (constantI S1 32 63#32)))))
    (constantI S_ 1 1#1) reducesTo_S512x1x1_S512x1_d2 h_S_

def refPicked : FVec Ideal S512x1 .f32 :=
  select (refInside t) (Host.gather gather_S512x64_S512x1x1_S512x1_n_1_0_0_1_2_11 (refProbs x r) (refCols t))
    (broadcastInDim S512x1 ![] bcast_S_S512x1 (constant S_ .f32 0x7FC00000#32))

/-- The expert of each row, as the start indices of the second gather. -/
def refExperts : IVec S512x1 32 :=
  broadcastInDim S512x1 ![0] bcast_S512_S512x1_0 (select (cmpi .slt (shapeCast _ t shapeCasts_S512x1_S512) (broadcastInDim S512 ![] bcast_S_S512 (constantI S_ 32 0#32)))
    (addi (shapeCast _ t shapeCasts_S512x1_S512) (broadcastInDim S512 ![] bcast_S_S512 (constantI S_ 32 64#32))) (shapeCast _ t shapeCasts_S512x1_S512))

def refWeights : FVec Ideal S512x256x512 .f32 :=
  Host.gather gather_S64x256x512_S512x1_S512x256x512_12_0_n_n_0_1_1256512 W (refExperts t)

/-- The reference's result. -/
def refOut : FVec Ideal S512x512 .f32 :=
  addf (Host.dotGeneral dot_S512x256_S256x512_S512x512_1_0_0_1_n_n none x s)
    (mulf (broadcastInDim S512x512 ![0, 1] bcast_S512x1_S512x512_0_1 (refPicked x r t))
      (Host.dotGeneral dot_S512x256_S512x256x512_S512x512_1_1_n_2_0_0 none x (refWeights t W)))

theorem refProbs_apply (n : Fin 512) (k : Fin 64) :
    refProbs x r (ix2 n k) = soft (fun k => ∑ j : Fin 256, x (ix2 n j) * r (ix2 j k)) k := by
  pointwise [refProbs, refExp, refScores, soft]

theorem small_word (e : Fin 64) : Scalar.select (IntOp.cmpi .slt (BitVec.ofNat 32 e.val) 0#32)
    (IntOp.addi (BitVec.ofNat 32 e.val) 64#32) (BitVec.ofNat 32 e.val) = BitVec.ofNat 32 e.val := by
  revert e; decide

theorem small_int {w : BitVec 32} {e : Fin 64} (hw : w = BitVec.ofNat 32 e.val) (h) : (⟨min w.toInt.toNat 63, h⟩ : Fin 64) = e := by
  subst hw
  refine Fin.ext ?_
  show min (BitVec.ofNat 32 e.val).toInt.toNat 63 = e.val
  clear h; revert e; decide

theorem small_inside (e : Fin 64) : IntOp.andi (IntOp.cmpi .sge (BitVec.ofNat 32 e.val) 0#32)
    (IntOp.cmpi .sle (BitVec.ofNat 32 e.val) 63#32) = 1#1 := by
  revert e; decide

variable {t} {e : Fin 512 → Fin 64} (he : ∀ n, t (ix2 n 0) = BitVec.ofNat 32 (e n).val)

include he in
theorem refCols_apply (n : Fin 512) : refCols t (ix3 n 0 0) = BitVec.ofNat 32 (e n).val := by
  pointwise [refCols]
  rw [he]; exact small_word _

include he in
theorem refExperts_apply (n : Fin 512) : refExperts t (ix2 n 0) = BitVec.ofNat 32 (e n).val := by
  pointwise [refExperts]
  rw [he]; exact small_word _

include he in
theorem refInside_apply (n : Fin 512) : refInside t (ix2 n 0) = 1#1 := by
  refine Host.reduce_andi_one _ _ _ _ _ rfl fun i => ?_
  have h1 : i 1 = (0 : Fin 1) := Subsingleton.elim (α := Fin 1) _ _
  have h2 : i 2 = (0 : Fin 1) := Subsingleton.elim (α := Fin 1) _ _
  have h3 : i = ix3 (i 0 : Fin 512) 0 0 := by
    funext d
    match d with
    | ⟨0, _⟩ => rfl
    | ⟨1, _⟩ => exact h1
    | ⟨2, _⟩ => exact h2
  have hi : refCols t i = BitVec.ofNat 32 (e (i 0)).val := (congrArg (refCols t) h3).trans (refCols_apply he _)
  show IntOp.andi (IntOp.cmpi .sge (refCols t i) 0#32) (IntOp.cmpi .sle (refCols t i) 63#32) = 1#1
  rw [hi]; exact small_inside _

include he in
theorem refPicked_apply (n : Fin 512) :
    refPicked x r t (ix2 n 0) = soft (fun k => ∑ j : Fin 256, x (ix2 n j) * r (ix2 j k)) (e n) := by
  show Scalar.select (refInside t (ix2 n 0)) (Host.gather _ (refProbs x r) (refCols t) (ix2 n 0)) _ = _
  rw [refInside_apply he, pick_apply, small_int (refCols_apply he n), refProbs_apply]
  rfl

include he in
theorem refWeights_apply (n : Fin 512) (j : Fin 256) (h : Fin 512) :
    refWeights t W (ix3 n j h) = W (ix3 (e n) j h) := by
  unfold refWeights
  rw [expert_apply, small_int (refExperts_apply he n)]

include he in
/-- The reference at row `n`, column `h`. -/
theorem refOut_apply (n h : Fin 512) : refOut x r t W s (ix2 n h)
    = (∑ j : Fin 256, x (ix2 n j) * s (ix2 j h))
      + soft (fun k => ∑ j : Fin 256, x (ix2 n j) * r (ix2 j k)) (e n) * ∑ j : Fin 256, x (ix2 n j) * W (ix3 (e n) j h) := by
  pointwise [refOut]
  simp only [refPicked_apply x r he, refWeights_apply W he]

end Cert.Routed
-- ==== Proof.Algebraic.lean ====
/-
  The value claim: started from the same arrays, every device's block of the kernel's result is that block of the
  reference's result.
-/
module

public import proofs.«01_k».proof.Proof.Frames
public import proofs.«01_k».proof.Proof.OutValue
public import proofs.«01_k».proof.Proof.RefValue

@[expose] public section

noncomputable section

namespace Cert.Routed

open Cert.KernelIdeal Cert.KernelIdeal.Gen

open Idealize.ShloMosaic
open Idealize.ShloMosaic.TcCoe
open Idealize.SL.Sem

/-! ## The precondition -/

theorem pre_facts_kernel : Cert.Pre_finite_scores_routed_in_range_KernelIdeal.Facts where
  bcast_S_S512x256 := by decide
  reducesTo_S512x256_S_d0_1 := by decide
  h_S_ := by decide
  bcast_S_S256x64 := by decide
  reducesTo_S256x64_S_d0_1 := by decide
  bcast_S_S512x1 := by decide
  reducesTo_S512x1_S_d0_1 := by decide

theorem pre_facts_reference : Cert.Pre_finite_scores_routed_in_range_ReferenceIdeal.Facts where
  bcast_S_S512x256 := by decide
  reducesTo_S512x256_S_d0_1 := by decide
  h_S_ := by decide
  bcast_S_S256x64 := by decide
  reducesTo_S256x64_S_d0_1 := by decide
  bcast_S_S512x1 := by decide
  reducesTo_S512x1_S_d0_1 := by decide

/-- A magnitude below infinity is a real's. -/
theorem finite_of_abs {x : EReal} (h : Ideal.cmp .olt (max x (-x)) (Ideal.ofBits .f32 2139095040#32) = 1#1) : Finite x := by
  have htop : Ideal.ofBits .f32 2139095040#32 = (⊤ : EReal) := by simp [Ideal.ofBits, Ideal.ieee]
  rw [htop] at h
  have hlt : max x (-x) < (⊤ : EReal) := by
    by_contra hn
    simp [Ideal.cmp, hn] at h
  refine ⟨fun hx => ?_, fun hx => ?_⟩ <;> simp [hx] at hlt

/-- A word between zero and sixty-four, read signed, is the number of an expert. -/
theorem word_small {w : BitVec 32} (h : IntOp.andi (IntOp.cmpi .sge w 0#32) (IntOp.cmpi .slt w 64#32) = 1#1) : w.toNat < 64 := by
  obtain ⟨h0, h1⟩ := IntOp.andi_eq_one.1 h
  simp only [IntOp.cmpi] at h0 h1
  have h0' : (0#32 : BitVec 32).sle w = true := by cases hb : (0#32 : BitVec 32).sle w <;> simp_all
  have h1' : w.slt 64#32 = true := by cases hb : w.slt 64#32 <;> simp_all
  simp only [BitVec.sle, BitVec.slt, decide_eq_true_eq] at h0' h1'
  have hi := BitVec.toInt_eq_toNat_cond w
  have h64 : (64#32 : BitVec 32).toInt = 64 := by decide
  have h00 : (0#32 : BitVec 32).toInt = 0 := by decide
  rw [h64] at h1'
  rw [h00] at h0'
  split at hi <;> omega

section Pre

variable [Cert.Pre_finite_scores_routed_in_range_KernelIdeal.Facts]
variable {x : FVec Ideal S512x256 .f32} {r : FVec Ideal S256x64 .f32} {t : IVec S512x1 32}
  {W : FVec Ideal S2x256x512 .f32} {s : FVec Ideal S256x512 .f32}

/-- What the precondition says of a device's arrays. -/
theorem pre_read (h : Cert.Pre_finite_scores_routed_in_range_KernelIdeal.fn (F := Ideal) x r t W s = fun _ => 1#1) :
    (∀ i, Finite (x i)) ∧ (∀ i, Finite (r i)) ∧ ∀ i, (t i).toNat < 64 := by
  haveI : Subsingleton Cert.Pre_finite_scores_routed_in_range_KernelIdeal.S_.Idx := ⟨fun i j => funext fun d => d.elim0⟩
  obtain ⟨h12, h3⟩ := IntOp.andi_eq_one.1 (congrFun h (fun d => d.elim0))
  obtain ⟨h1, h2⟩ := IntOp.andi_eq_one.1 h12
  exact ⟨fun i => finite_of_abs (Host.reduce_andi_all _ _ _ _ _ h1 i), fun i => finite_of_abs (Host.reduce_andi_all _ _ _ _ _ h2 i),
    fun i => word_small (Host.reduce_andi_all _ _ _ _ _ h3 i)⟩

end Pre

/-! ## The devices' blocks -/

variable (m : (ℓ : Loc nD τ sig) → Buf (Elt Ideal) ℓ)

/-! Each operand's window is the whole array. -/

theorem x0_eq (c : Dev nD) : x0 m c = m ((c : Thread nD τ).loc main_arg0) :=
  Memref.read_access_unit_zero (h := by decide) ..
theorem x1_eq (c : Dev nD) : x1 m c = m ((c : Thread nD τ).loc main_arg1) :=
  Memref.read_access_unit_zero (h := by decide) ..
theorem x2_eq (c : Dev nD) : x2 m c = m ((c : Thread nD τ).loc main_arg2) :=
  Memref.read_access_unit_zero (h := by decide) ..
theorem x3_eq (c : Dev nD) : x3 m c = m ((c : Thread nD τ).loc main_arg3) :=
  Memref.read_access_unit_zero (h := by decide) ..
theorem x4_eq (c : Dev nD) : x4 m c = m ((c : Thread nD τ).loc main_arg4) :=
  Memref.read_access_unit_zero (h := by decide) ..

/-- Device `c`'s experts in the whole array of experts. -/
theorem block_experts (c : Dev nD) (W : (⟨3, ![64, 256, 512]⟩ : Shape).Idx → EReal) (b : Fin 2) (j : Fin 256) (h : Fin 512) :
    Layout.block ⟨3, ![2, 256, 512]⟩ ⟨3, ![64, 256, 512]⟩ 0 32 c W (by decide) (ix3 b j h) = W (ix3 (held c b) j h) := by
  rw [Layout.block_apply]
  refine congrArg W (funext fun d => ?_)
  match d with
  | ⟨0, _⟩ => exact Fin.ext (by show c.val * 2 + b.val = 2 * c.val + b.val; omega)
  | ⟨1, _⟩ => rfl
  | ⟨2, _⟩ => rfl

/-- Device `c`'s rows in the whole result. -/
theorem block_rows (c : Dev nD) (v : (⟨2, ![512, 512]⟩ : Shape).Idx → EReal) (r : Fin 16) (h : Fin 512) :
    Layout.block ⟨2, ![16, 512]⟩ ⟨2, ![512, 512]⟩ 0 32 c v (by decide) (ix2 r h) = v (ix2 (outRow c r) h) := by
  rw [Layout.block_apply]
  refine congrArg v (funext fun d => ?_)
  match d with
  | ⟨0, _⟩ => exact Fin.ext (by show c.val * 16 + r.val = 16 * c.val + r.val; omega)
  | ⟨1, _⟩ => rfl

/-! ## The claim -/

theorem algebraic : Cert.algebraic_KernelIdeal_ReferenceIdeal_pre_finite_scores_routed_in_range_KernelIdeal
    (hPre_finite_scores_routed_in_range_KernelIdeal := pre_facts_kernel) := by
  intro m g m' g' hpre hargs
  letI := pre_facts_kernel
  obtain ⟨h0, h1, h2, -, h4⟩ := hargs 0
  obtain ⟨hx, hr, ht⟩ := pre_read (hpre 0)
  rw [h0] at hx
  rw [h1] at hr
  rw [h2] at ht
  let o : Thread Cert.ReferenceIdeal.nD Cert.ReferenceIdeal.τ := ((0 : Dev Cert.ReferenceIdeal.nD).tc : Thread _ _)
  let a : Args := {
    x := m' (o.loc Cert.ReferenceIdeal.main_arg0)
    r := m' (o.loc Cert.ReferenceIdeal.main_arg1)
    e := fun n => ⟨((m' (o.loc Cert.ReferenceIdeal.main_arg2) : IVec S512x1 32) (ix2 n 0)).toNat, ht _⟩
    W := m' (o.loc Cert.ReferenceIdeal.main_arg3)
    s := m' (o.loc Cert.ReferenceIdeal.main_arg4) }
  have he : ∀ n, (m' (o.loc Cert.ReferenceIdeal.main_arg2) : IVec S512x1 32) (ix2 n 0) = BitVec.ofNat 32 (a.e n).val := fun n =>
    BitVec.eq_of_toNat_eq (by
      show _ = (BitVec.toNat _) % 2 ^ 32
      exact (Nat.mod_eq_of_lt (BitVec.isLt _)).symm)
  have H : Holds m a := {
    x := fun c => (x0_eq m c).trans (hargs c).1
    r := fun c => (x1_eq m c).trans (hargs c).2.1
    e := fun c n => by rw [x2_eq, (hargs c).2.2.1]; exact he n
    W := fun c b j h => by rw [x3_eq, (hargs c).2.2.2.1]; exact block_experts c _ b j h
    s := fun c => (x4_eq m c).trans (hargs c).2.2.2.2 }
  refine ⟨refOut a.x a.r (m' (o.loc Cert.ReferenceIdeal.main_arg2)) a.W a.s, ?_, ?_⟩
  · refine (θ_run defs _ _).mono (fun r h c => ?_) (run_args m g)
    obtain ⟨k0, k1, k2, k3, k4, k5⟩ := h.1 c
    refine ⟨?_, k0, k1, k2, k3, k4⟩
    rw [k5, final_out]
    funext i
    rw [ValueIdx.eq_ix2 i]
    exact (outAt_eq H hx hr c _ _).trans ((refOut_apply _ _ _ _ he _ _).symm.trans (block_rows c _ _ _).symm)
  · refine (θ_run Cert.ReferenceIdeal.defs _ _).mono (fun r h => h 0) (Cert.ReferenceIdeal.Value.run (F := Ideal) m' g')

end Cert.Routed
-- ==== Proof.lean ====
/- The proof of the certificate's claim: each conjunct is proved in a module of its own, and this file puts them together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Routed.pre_facts_kernel, Cert.Routed.pre_facts_reference,
  Cert.Routed.frame_kernel, Cert.Routed.frame_ideal, fun m g _ => Cert.Routed.frame_ideal m g trivial,
  Cert.Routed.frame_reference, fun m g _ => Cert.Routed.frame_reference m g trivial, trivial, Cert.Routed.algebraic⟩

end Cert.Proof

end
